-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk_KernelIdeal [hPre_finite_qk_KernelIdeal : Cert.Pre_finite_qk_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk_ReferenceIdeal [hPre_finite_qk_ReferenceIdeal : Cert.Pre_finite_qk_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk_KernelIdeal [hKernelIdeal : Cert.KernelIdeal.Facts] [hPre_finite_qk_KernelIdeal : Cert.Pre_finite_qk_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk_ReferenceIdeal [hReferenceIdeal : Cert.ReferenceIdeal.Facts] [hPre_finite_qk_ReferenceIdeal : Cert.Pre_finite_qk_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_qk_KernelIdeal [hKernelIdeal : Cert.KernelIdeal.Facts] [hReferenceIdeal : Cert.ReferenceIdeal.Facts] [hPre_finite_qk_KernelIdeal : Cert.Pre_finite_qk_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk_KernelIdeal m →
    (∀ c : Dev Cert.KernelIdeal.nD,
      m ((c.tc : Thread Cert.KernelIdeal.nD Cert.KernelIdeal.τ).loc Cert.KernelIdeal.main_arg0) = Layout.blockN ⟨4, ![2, 256, 8, 64]⟩ ⟨4, ![2, 1024, 8, 64]⟩ (Layout.meshBlock [2, 4, 4] ![[], [1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨4, ![2, 256, 8, 64]⟩ ⟨4, ![2, 1024, 8, 64]⟩ (Layout.meshBlock [2, 4, 4] ![[], [1], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![2, 256, 8, 64]⟩ ⟨4, ![2, 1024, 8, 64]⟩ (Layout.meshBlock [2, 4, 4] ![[], [1], [], []] c) (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = Layout.blockN ⟨4, ![2, 256, 8, 64]⟩ ⟨4, ![2, 1024, 8, 64]⟩ (Layout.meshBlock [2, 4, 4] ![[], [1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v16) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_qk_KernelIdeal : Cert.Pre_finite_qk_KernelIdeal.Facts) (hPre_finite_qk_ReferenceIdeal : Cert.Pre_finite_qk_ReferenceIdeal.Facts),
    quiescent_Kernel (hKernel := hKernel)
    ∧ quiescent_KernelIdeal (hKernelIdeal := hKernelIdeal)
    ∧ quiescent_KernelIdeal_pre_finite_qk_KernelIdeal (hKernelIdeal := hKernelIdeal) (hPre_finite_qk_KernelIdeal := hPre_finite_qk_KernelIdeal)
    ∧ quiescent_ReferenceIdeal (hReferenceIdeal := hReferenceIdeal)
    ∧ quiescent_ReferenceIdeal_pre_finite_qk_ReferenceIdeal (hReferenceIdeal := hReferenceIdeal) (hPre_finite_qk_ReferenceIdeal := hPre_finite_qk_ReferenceIdeal)
    ∧ preserves_Kernel_KernelIdeal
    ∧ algebraic_KernelIdeal_ReferenceIdeal_pre_finite_qk_KernelIdeal (hKernelIdeal := hKernelIdeal) (hReferenceIdeal := hReferenceIdeal) (hPre_finite_qk_KernelIdeal := hPre_finite_qk_KernelIdeal)
-- ==== Pre_finite_qk_KernelIdeal.lean ====
abbrev S2x256x8x64 : Shape := ⟨4, ![2, 256, 8, 64]⟩
abbrev S_ : Shape := ⟨0, ![]⟩

class Facts : Prop where
  bcast_S_S2x256x8x64 : S_.BroadcastsInDim S2x256x8x64 (![] : Fin 0 → Fin S2x256x8x64.rank)

variable [Facts]

def fn {F : FTy → Type} [FloatOps F] (main_arg0 : FVec F S2x256x8x64 .bf16) (main_arg1 : FVec F S2x256x8x64 .bf16) (main_arg2 : FVec F S2x256x8x64 .bf16) : IVec S2x256x8x64 1 :=
  let main_v0 : FVec F S2x256x8x64 .bf16 := Host.absf main_arg0
  let main_cst : FVec F S_ .bf16 := constant S_ .bf16 0x7F80#16
  let main_v1 : FVec F S2x256x8x64 .bf16 := broadcastInDim S2x256x8x64 ![] bcast_S_S2x256x8x64 main_cst
  let main_v2 : IVec S2x256x8x64 1 := cmpf .olt main_v0 main_v1
  let main_v3 : FVec F S2x256x8x64 .bf16 := Host.absf main_arg1
  let main_cst_0 : FVec F S_ .bf16 := constant S_ .bf16 0x7F80#16
  let main_v4 : FVec F S2x256x8x64 .bf16 := broadcastInDim S2x256x8x64 ![] bcast_S_S2x256x8x64 main_cst_0
  let main_v5 : IVec S2x256x8x64 1 := cmpf .olt main_v3 main_v4
  let main_v6 : IVec S2x256x8x64 1 := andi main_v2 main_v5
  main_v6
-- ==== Pre_finite_qk_ReferenceIdeal.lean ====
abbrev S2x1024x8x64 : Shape := ⟨4, ![2, 1024, 8, 64]⟩
abbrev S_ : Shape := ⟨0, ![]⟩

class Facts : Prop where
  bcast_S_S2x1024x8x64 : S_.BroadcastsInDim S2x1024x8x64 (![] : Fin 0 → Fin S2x1024x8x64.rank)

variable [Facts]

def fn {F : FTy → Type} [FloatOps F] (main_arg0 : FVec F S2x1024x8x64 .bf16) (main_arg1 : FVec F S2x1024x8x64 .bf16) (main_arg2 : FVec F S2x1024x8x64 .bf16) : IVec S2x1024x8x64 1 :=
  let main_v0 : FVec F S2x1024x8x64 .bf16 := Host.absf main_arg0
  let main_cst : FVec F S_ .bf16 := constant S_ .bf16 0x7F80#16
  let main_v1 : FVec F S2x1024x8x64 .bf16 := broadcastInDim S2x1024x8x64 ![] bcast_S_S2x1024x8x64 main_cst
  let main_v2 : IVec S2x1024x8x64 1 := cmpf .olt main_v0 main_v1
  let main_v3 : FVec F S2x1024x8x64 .bf16 := Host.absf main_arg1
  let main_cst_0 : FVec F S_ .bf16 := constant S_ .bf16 0x7F80#16
  let main_v4 : FVec F S2x1024x8x64 .bf16 := broadcastInDim S2x1024x8x64 ![] bcast_S_S2x1024x8x64 main_cst_0
  let main_v5 : IVec S2x1024x8x64 1 := cmpf .olt main_v3 main_v4
  let main_v6 : IVec S2x1024x8x64 1 := andi main_v2 main_v5
  main_v6
-- ==== Kernel.lean ====
abbrev S2x256x8x64 : Shape := ⟨4, ![2, 256, 8, 64]⟩
abbrev S2x256x4x128 : Shape := ⟨4, ![2, 256, 4, 128]⟩
abbrev S4x2x256x128 : Shape := ⟨4, ![4, 2, 256, 128]⟩
abbrev S2x256x512 : Shape := ⟨3, ![2, 256, 512]⟩
abbrev S2x256x128 : Shape := ⟨3, ![2, 256, 128]⟩
abbrev S2x2x256x1 : Shape := ⟨4, ![2, 2, 256, 1]⟩
abbrev S11 : Shape := ⟨1, ![11]⟩
abbrev S_ : Shape := ⟨0, ![]⟩
abbrev S1 : Shape := ⟨1, ![1]⟩
abbrev S1x2x256x128 : Shape := ⟨4, ![1, 2, 256, 128]⟩
abbrev S2x256x64 : Shape := ⟨3, ![2, 256, 64]⟩
abbrev S2x256x256 : Shape := ⟨3, ![2, 256, 256]⟩
abbrev S2x1x256x1 : Shape := ⟨4, ![2, 1, 256, 1]⟩
abbrev S2x256x1 : Shape := ⟨3, ![2, 256, 1]⟩
abbrev S2x256 : Shape := ⟨2, ![2, 256]⟩
abbrev S2x128x128 : Shape := ⟨3, ![2, 128, 128]⟩

abbrev nBuf : Space → Nat
  | .hbm => 11
  | .vmem => 17
  | .smem => 0
  | _ => 0

abbrev bufTy : (tb : Table) → Fin (tcTables nBuf tb) → BufTy
  | .hbm, ⟨0, _⟩ => ⟨S2x256x8x64, .bf16⟩
  | .hbm, ⟨1, _⟩ => ⟨S2x256x8x64, .bf16⟩
  | .hbm, ⟨2, _⟩ => ⟨S2x256x8x64, .bf16⟩
  | .hbm, ⟨3, _⟩ => ⟨S2x256x4x128, .bf16⟩
  | .hbm, ⟨4, _⟩ => ⟨S4x2x256x128, .bf16⟩
  | .hbm, ⟨5, _⟩ => ⟨S2x256x4x128, .bf16⟩
  | .hbm, ⟨6, _⟩ => ⟨S4x2x256x128, .bf16⟩
  | .hbm, ⟨7, _⟩ => ⟨S2x256x4x128, .bf16⟩
  | .hbm, ⟨8, _⟩ => ⟨S4x2x256x128, .bf16⟩
  | .hbm, ⟨9, _⟩ => ⟨S2x256x512, .f32⟩
  | .hbm, ⟨10, _⟩ => ⟨S2x256x8x64, .f32⟩
  | .local _ .vmem, ⟨0, _⟩ => ⟨S4x2x256x128, .bf16⟩
  | .local _ .vmem, ⟨1, _⟩ => ⟨S4x2x256x128, .bf16⟩
  | .local _ .vmem, ⟨2, _⟩ => ⟨S4x2x256x128, .bf16⟩
  | .local _ .vmem, ⟨3, _⟩ => ⟨S2x256x512, .f32⟩
  | .local _ .vmem, ⟨4, _⟩ => ⟨S2x256x128, .bf16⟩
  | .local _ .vmem, ⟨5, _⟩ => ⟨S2x256x128, .bf16⟩
  | .local _ .vmem, ⟨6, _⟩ => ⟨S2x256x128, .bf16⟩
  | .local _ .vmem, ⟨7, _⟩ => ⟨S2x256x128, .bf16⟩
  | .local _ .vmem, ⟨8, _⟩ => ⟨S2x256x128, .bf16⟩
  | .local _ .vmem, ⟨9, _⟩ => ⟨S2x256x128, .bf16⟩
  | .local _ .vmem, ⟨10, _⟩ => ⟨S2x256x128, .bf16⟩
  | .local _ .vmem, ⟨11, _⟩ => ⟨S2x256x128, .bf16⟩
  | .local _ .vmem, ⟨12, _⟩ => ⟨S2x256x128, .bf16⟩
  | .local _ .vmem, ⟨13, _⟩ => ⟨S2x256x128, .bf16⟩
  | .local _ .vmem, ⟨14, _⟩ => ⟨S2x256x128, .bf16⟩
  | .local _ .vmem, ⟨15, _⟩ => ⟨S2x256x128, .f32⟩
  | .local _ .vmem, ⟨16, _⟩ => ⟨S2x2x256x1, .f32⟩
  | _, _ => ⟨S2x256x8x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 1 → Bool
  | ⟨0, _⟩ => false
  | _ => false

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  (ofTc nBuf bufTy 1 26 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_scratch8 : Ref sig .tc := ⟨.vmem, 12, rfl⟩
abbrev cc0_scratch9 : Ref sig .tc := ⟨.vmem, 13, rfl⟩
abbrev cc0_scratch10 : Ref sig .tc := ⟨.vmem, 14, rfl⟩
abbrev cc0_scratch11 : Ref sig .tc := ⟨.vmem, 15, rfl⟩
abbrev cc0_scratch12 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_27 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_26 : BitVec 32 := 16#32
  let v47 : BitVec 32 := Scalar.muli v2 c16_i32_26
  let v48 : BitVec 32 := Scalar.addi c0_i32_27 v47
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v10 : BitVec 32 := Scalar.subi v5 c1_i32_3
  let c4_i32_4 : BitVec 32 := 4#32
  let c0_i32 : BitVec 32 := 0#32
  let v11 : BitVec 1 := Scalar.cmpi .eq c4_i32_4 c0_i32
  let c1_i32_5 : BitVec 32 := 1#32
  let v12 : BitVec 32 := Scalar.select v11 c1_i32_5 c4_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let c4_i32_28 : BitVec 32 := 4#32
  let v49 : BitVec 32 := Scalar.muli v20 c4_i32_28
  let v50 : BitVec 32 := Scalar.addi v48 v49
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_29 : BitVec 32 := 1#32
  let v51 : BitVec 32 := Scalar.muli v8 c1_i32_29
  let v52 : BitVec 32 := Scalar.addi v50 v51
  v52.toNat
def k0_dev2 (d0 : Dev nD) : Nat :=
  let c0_i32_32 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_31 : BitVec 32 := 16#32
  let v53 : BitVec 32 := Scalar.muli v2 c16_i32_31
  let v54 : BitVec 32 := Scalar.addi c0_i32_32 v53
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_9 : BitVec 32 := 1#32
  let v21 : BitVec 32 := Scalar.addi v5 c1_i32_9
  let c4_i32_10 : BitVec 32 := 4#32
  let c0_i32_11 : BitVec 32 := 0#32
  let v22 : BitVec 1 := Scalar.cmpi .eq c4_i32_10 c0_i32_11
  let c1_i32_12 : BitVec 32 := 1#32
  let v23 : BitVec 32 := Scalar.select v22 c1_i32_12 c4_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_33 : BitVec 32 := 4#32
  let v55 : BitVec 32 := Scalar.muli v31 c4_i32_33
  let v56 : BitVec 32 := Scalar.addi v54 v55
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_34 : BitVec 32 := 1#32
  let v57 : BitVec 32 := Scalar.muli v8 c1_i32_34
  let v58 : BitVec 32 := Scalar.addi v56 v57
  v58.toNat
def k0_dev3 (d0 : Dev nD) : Nat :=
  let c0_i32_37 : BitVec 32 := 0#32
  let c1_i32_16 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v32 : BitVec 32 := Scalar.subi c1_i32_16 v2
  let c16_i32_36 : BitVec 32 := 16#32
  let v59 : BitVec 32 := Scalar.muli v32 c16_i32_36
  let v60 : BitVec 32 := Scalar.addi c0_i32_37 v59
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_38 : BitVec 32 := 4#32
  let v61 : BitVec 32 := Scalar.muli v5 c4_i32_38
  let v62 : BitVec 32 := Scalar.addi v60 v61
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_39 : BitVec 32 := 1#32
  let v63 : BitVec 32 := Scalar.muli v8 c1_i32_39
  let v64 : BitVec 32 := Scalar.addi v62 v63
  v64.toNat
def k0_dev4 (d0 : Dev nD) : Nat :=
  let c0_i32_42 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_41 : BitVec 32 := 16#32
  let v65 : BitVec 32 := Scalar.muli v2 c16_i32_41
  let v66 : BitVec 32 := Scalar.addi c0_i32_42 v65
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_43 : BitVec 32 := 4#32
  let v67 : BitVec 32 := Scalar.muli v5 c4_i32_43
  let v68 : BitVec 32 := Scalar.addi v66 v67
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.xori v8 c1_i32_2
  let c1_i32_44 : BitVec 32 := 1#32
  let v69 : BitVec 32 := Scalar.muli v9 c1_i32_44
  let v70 : BitVec 32 := Scalar.addi v68 v69
  v70.toNat
def k0_dev5 (d0 : Dev nD) : Nat :=
  let c0_i32_47 : BitVec 32 := 0#32
  let c1_i32_17 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v33 : BitVec 32 := Scalar.subi c1_i32_17 v2
  let c16_i32_46 : BitVec 32 := 16#32
  let v71 : BitVec 32 := Scalar.muli v33 c16_i32_46
  let v72 : BitVec 32 := Scalar.addi c0_i32_47 v71
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_48 : BitVec 32 := 4#32
  let v73 : BitVec 32 := Scalar.muli v5 c4_i32_48
  let v74 : BitVec 32 := Scalar.addi v72 v73
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.xori v8 c1_i32_2
  let c1_i32_49 : BitVec 32 := 1#32
  let v75 : BitVec 32 := Scalar.muli v9 c1_i32_49
  let v76 : BitVec 32 := Scalar.addi v74 v75
  v76.toNat
def k0_off1 (d0 : Dev nD) : Fin 4 → Nat :=
  let c2_i32_18 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v34 : BitVec 32 := Scalar.muli c2_i32_18 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_19 : BitVec 32 := 2#32
  let c0_i32_20 : BitVec 32 := 0#32
  let v35 : BitVec 1 := Scalar.cmpi .eq c2_i32_19 c0_i32_20
  let c1_i32_21 : BitVec 32 := 1#32
  let v36 : BitVec 32 := Scalar.select v35 c1_i32_21 c2_i32_19
  let v37 : BitVec 32 := Scalar.remsi v8 v36
  let c0_i32_23 : BitVec 32 := 0#32
  let v39 : BitVec 1 := Scalar.cmpi .slt v37 c0_i32_23
  let c0_i32_24 : BitVec 32 := 0#32
  let v40 : BitVec 1 := Scalar.cmpi .slt v36 c0_i32_24
  let v41 : BitVec 1 := Scalar.xori v39 v40
  let c0_i32_22 : BitVec 32 := 0#32
  let v38 : BitVec 1 := Scalar.cmpi .ne v37 c0_i32_22
  let v42 : BitVec 1 := Scalar.andi v41 v38
  let v43 : BitVec 32 := Scalar.addi v37 v36
  let v44 : BitVec 32 := Scalar.select v42 v43 v37
  let v45 : BitVec 32 := Scalar.addi v34 v44
  let c0_i32_56 : BitVec 32 := 0#32
  let c0_i32_57 : BitVec 32 := 0#32
  let c0_i32_58 : BitVec 32 := 0#32
  ![v45.toNat, 0, 0, 0]
def k0_dev6 (d0 : Dev nD) : Nat :=
  let c0_i32_53 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_52 : BitVec 32 := 16#32
  let v77 : BitVec 32 := Scalar.muli v2 c16_i32_52
  let v78 : BitVec 32 := Scalar.addi c0_i32_53 v77
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_9 : BitVec 32 := 1#32
  let v21 : BitVec 32 := Scalar.addi v5 c1_i32_9
  let c4_i32_10 : BitVec 32 := 4#32
  let c0_i32_11 : BitVec 32 := 0#32
  let v22 : BitVec 1 := Scalar.cmpi .eq c4_i32_10 c0_i32_11
  let c1_i32_12 : BitVec 32 := 1#32
  let v23 : BitVec 32 := Scalar.select v22 c1_i32_12 c4_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_54 : BitVec 32 := 4#32
  let v79 : BitVec 32 := Scalar.muli v31 c4_i32_54
  let v80 : BitVec 32 := Scalar.addi v78 v79
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_55 : BitVec 32 := 1#32
  let v81 : BitVec 32 := Scalar.muli v8 c1_i32_55
  let v82 : BitVec 32 := Scalar.addi v80 v81
  v82.toNat
def k0_dev7 (d0 : Dev nD) : Nat :=
  let c0_i32_62 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_61 : BitVec 32 := 16#32
  let v89 : BitVec 32 := Scalar.muli v2 c16_i32_61
  let v90 : BitVec 32 := Scalar.addi c0_i32_62 v89
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_9 : BitVec 32 := 1#32
  let v21 : BitVec 32 := Scalar.addi v5 c1_i32_9
  let c4_i32_10 : BitVec 32 := 4#32
  let c0_i32_11 : BitVec 32 := 0#32
  let v22 : BitVec 1 := Scalar.cmpi .eq c4_i32_10 c0_i32_11
  let c1_i32_12 : BitVec 32 := 1#32
  let v23 : BitVec 32 := Scalar.select v22 c1_i32_12 c4_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_63 : BitVec 32 := 4#32
  let v91 : BitVec 32 := Scalar.muli v31 c4_i32_63
  let v92 : BitVec 32 := Scalar.addi v90 v91
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_64 : BitVec 32 := 1#32
  let v93 : BitVec 32 := Scalar.muli v8 c1_i32_64
  let v94 : BitVec 32 := Scalar.addi v92 v93
  v94.toNat
def k0_dev8 (d0 : Dev nD) : Nat :=
  let c0_i32_71 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_70 : BitVec 32 := 16#32
  let v101 : BitVec 32 := Scalar.muli v2 c16_i32_70
  let v102 : BitVec 32 := Scalar.addi c0_i32_71 v101
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v10 : BitVec 32 := Scalar.subi v5 c1_i32_3
  let c4_i32_4 : BitVec 32 := 4#32
  let c0_i32 : BitVec 32 := 0#32
  let v11 : BitVec 1 := Scalar.cmpi .eq c4_i32_4 c0_i32
  let c1_i32_5 : BitVec 32 := 1#32
  let v12 : BitVec 32 := Scalar.select v11 c1_i32_5 c4_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let c4_i32_72 : BitVec 32 := 4#32
  let v103 : BitVec 32 := Scalar.muli v20 c4_i32_72
  let v104 : BitVec 32 := Scalar.addi v102 v103
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_73 : BitVec 32 := 1#32
  let v105 : BitVec 32 := Scalar.muli v8 c1_i32_73
  let v106 : BitVec 32 := Scalar.addi v104 v105
  v106.toNat
def k0_dev9 (d0 : Dev nD) : Nat :=
  let c0_i32_79 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_78 : BitVec 32 := 16#32
  let v113 : BitVec 32 := Scalar.muli v2 c16_i32_78
  let v114 : BitVec 32 := Scalar.addi c0_i32_79 v113
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v10 : BitVec 32 := Scalar.subi v5 c1_i32_3
  let c4_i32_4 : BitVec 32 := 4#32
  let c0_i32 : BitVec 32 := 0#32
  let v11 : BitVec 1 := Scalar.cmpi .eq c4_i32_4 c0_i32
  let c1_i32_5 : BitVec 32 := 1#32
  let v12 : BitVec 32 := Scalar.select v11 c1_i32_5 c4_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let c4_i32_80 : BitVec 32 := 4#32
  let v115 : BitVec 32 := Scalar.muli v20 c4_i32_80
  let v116 : BitVec 32 := Scalar.addi v114 v115
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_81 : BitVec 32 := 1#32
  let v117 : BitVec 32 := Scalar.muli v8 c1_i32_81
  let v118 : BitVec 32 := Scalar.addi v116 v117
  v118.toNat
def k0_off2 (d0 : Dev nD) : Fin 4 → Nat :=
  let c2_i32_18 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v34 : BitVec 32 := Scalar.muli c2_i32_18 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_19 : BitVec 32 := 2#32
  let c0_i32_20 : BitVec 32 := 0#32
  let v35 : BitVec 1 := Scalar.cmpi .eq c2_i32_19 c0_i32_20
  let c1_i32_21 : BitVec 32 := 1#32
  let v36 : BitVec 32 := Scalar.select v35 c1_i32_21 c2_i32_19
  let v37 : BitVec 32 := Scalar.remsi v8 v36
  let c0_i32_23 : BitVec 32 := 0#32
  let v39 : BitVec 1 := Scalar.cmpi .slt v37 c0_i32_23
  let c0_i32_24 : BitVec 32 := 0#32
  let v40 : BitVec 1 := Scalar.cmpi .slt v36 c0_i32_24
  let v41 : BitVec 1 := Scalar.xori v39 v40
  let c0_i32_22 : BitVec 32 := 0#32
  let v38 : BitVec 1 := Scalar.cmpi .ne v37 c0_i32_22
  let v42 : BitVec 1 := Scalar.andi v41 v38
  let v43 : BitVec 32 := Scalar.addi v37 v36
  let v44 : BitVec 32 := Scalar.select v42 v43 v37
  let v45 : BitVec 32 := Scalar.addi v34 v44
  let v125 : Index := Scalar.indexCast v45
  let c0 : Index := 0#32
  let c0_85 : Index := 0#32
  let c0_86 : Index := 0#32
  ![v125.toNat, 0, 0, 0]
def k0_dev10 (d0 : Dev nD) : Nat :=
  let c0_i32_173 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_172 : BitVec 32 := 16#32
  let v203 : BitVec 32 := Scalar.muli v2 c16_i32_172
  let v204 : BitVec 32 := Scalar.addi c0_i32_173 v203
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_9 : BitVec 32 := 1#32
  let v21 : BitVec 32 := Scalar.addi v5 c1_i32_9
  let c4_i32_10 : BitVec 32 := 4#32
  let c0_i32_11 : BitVec 32 := 0#32
  let v22 : BitVec 1 := Scalar.cmpi .eq c4_i32_10 c0_i32_11
  let c1_i32_12 : BitVec 32 := 1#32
  let v23 : BitVec 32 := Scalar.select v22 c1_i32_12 c4_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_174 : BitVec 32 := 4#32
  let v205 : BitVec 32 := Scalar.muli v31 c4_i32_174
  let v206 : BitVec 32 := Scalar.addi v204 v205
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_175 : BitVec 32 := 1#32
  let v207 : BitVec 32 := Scalar.muli v8 c1_i32_175
  let v208 : BitVec 32 := Scalar.addi v206 v207
  v208.toNat
def k0_dev11 (d0 : Dev nD) : Nat :=
  let c0_i32_194 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_193 : BitVec 32 := 16#32
  let v225 : BitVec 32 := Scalar.muli v2 c16_i32_193
  let v226 : BitVec 32 := Scalar.addi c0_i32_194 v225
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_9 : BitVec 32 := 1#32
  let v21 : BitVec 32 := Scalar.addi v5 c1_i32_9
  let c4_i32_10 : BitVec 32 := 4#32
  let c0_i32_11 : BitVec 32 := 0#32
  let v22 : BitVec 1 := Scalar.cmpi .eq c4_i32_10 c0_i32_11
  let c1_i32_12 : BitVec 32 := 1#32
  let v23 : BitVec 32 := Scalar.select v22 c1_i32_12 c4_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_195 : BitVec 32 := 4#32
  let v227 : BitVec 32 := Scalar.muli v31 c4_i32_195
  let v228 : BitVec 32 := Scalar.addi v226 v227
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_196 : BitVec 32 := 1#32
  let v229 : BitVec 32 := Scalar.muli v8 c1_i32_196
  let v230 : BitVec 32 := Scalar.addi v228 v229
  v230.toNat
def k0_dev12 (d0 : Dev nD) : Nat :=
  let c0_i32_266 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_265 : BitVec 32 := 16#32
  let v287 : BitVec 32 := Scalar.muli v2 c16_i32_265
  let v288 : BitVec 32 := Scalar.addi c0_i32_266 v287
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v10 : BitVec 32 := Scalar.subi v5 c1_i32_3
  let c4_i32_4 : BitVec 32 := 4#32
  let c0_i32 : BitVec 32 := 0#32
  let v11 : BitVec 1 := Scalar.cmpi .eq c4_i32_4 c0_i32
  let c1_i32_5 : BitVec 32 := 1#32
  let v12 : BitVec 32 := Scalar.select v11 c1_i32_5 c4_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let c4_i32_267 : BitVec 32 := 4#32
  let v289 : BitVec 32 := Scalar.muli v20 c4_i32_267
  let v290 : BitVec 32 := Scalar.addi v288 v289
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_268 : BitVec 32 := 1#32
  let v291 : BitVec 32 := Scalar.muli v8 c1_i32_268
  let v292 : BitVec 32 := Scalar.addi v290 v291
  v292.toNat
def k0_dev13 (d0 : Dev nD) : Nat :=
  let c0_i32_285 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_284 : BitVec 32 := 16#32
  let v309 : BitVec 32 := Scalar.muli v2 c16_i32_284
  let v310 : BitVec 32 := Scalar.addi c0_i32_285 v309
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v10 : BitVec 32 := Scalar.subi v5 c1_i32_3
  let c4_i32_4 : BitVec 32 := 4#32
  let c0_i32 : BitVec 32 := 0#32
  let v11 : BitVec 1 := Scalar.cmpi .eq c4_i32_4 c0_i32
  let c1_i32_5 : BitVec 32 := 1#32
  let v12 : BitVec 32 := Scalar.select v11 c1_i32_5 c4_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let c4_i32_286 : BitVec 32 := 4#32
  let v311 : BitVec 32 := Scalar.muli v20 c4_i32_286
  let v312 : BitVec 32 := Scalar.addi v310 v311
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_287 : BitVec 32 := 1#32
  let v313 : BitVec 32 := Scalar.muli v8 c1_i32_287
  let v314 : BitVec 32 := Scalar.addi v312 v313
  v314.toNat
def k0_off3 (d0 : Dev nD) : Fin 3 → Nat :=
  let c0_461 : Index := 0#32
  let c0_462 : Index := 0#32
  let c2_i32_18 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v34 : BitVec 32 := Scalar.muli c2_i32_18 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_19 : BitVec 32 := 2#32
  let c0_i32_20 : BitVec 32 := 0#32
  let v35 : BitVec 1 := Scalar.cmpi .eq c2_i32_19 c0_i32_20
  let c1_i32_21 : BitVec 32 := 1#32
  let v36 : BitVec 32 := Scalar.select v35 c1_i32_21 c2_i32_19
  let v37 : BitVec 32 := Scalar.remsi v8 v36
  let c0_i32_23 : BitVec 32 := 0#32
  let v39 : BitVec 1 := Scalar.cmpi .slt v37 c0_i32_23
  let c0_i32_24 : BitVec 32 := 0#32
  let v40 : BitVec 1 := Scalar.cmpi .slt v36 c0_i32_24
  let v41 : BitVec 1 := Scalar.xori v39 v40
  let c0_i32_22 : BitVec 32 := 0#32
  let v38 : BitVec 1 := Scalar.cmpi .ne v37 c0_i32_22
  let v42 : BitVec 1 := Scalar.andi v41 v38
  let v43 : BitVec 32 := Scalar.addi v37 v36
  let v44 : BitVec 32 := Scalar.select v42 v43 v37
  let v45 : BitVec 32 := Scalar.addi v34 v44
  let c128_i32_460 : BitVec 32 := 128#32
  let v452 : BitVec 32 := Scalar.muli v45 c128_i32_460
  let v453 : Index := Scalar.indexCast v452
  ![0, 0, v453.toNat]
def k0_dev14 (d0 : Dev nD) : Nat :=
  let c0_i32_468 : BitVec 32 := 0#32
  let c1_i32_16 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v32 : BitVec 32 := Scalar.subi c1_i32_16 v2
  let c16_i32_467 : BitVec 32 := 16#32
  let v459 : BitVec 32 := Scalar.muli v32 c16_i32_467
  let v460 : BitVec 32 := Scalar.addi c0_i32_468 v459
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_469 : BitVec 32 := 4#32
  let v461 : BitVec 32 := Scalar.muli v5 c4_i32_469
  let v462 : BitVec 32 := Scalar.addi v460 v461
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_470 : BitVec 32 := 1#32
  let v463 : BitVec 32 := Scalar.muli v8 c1_i32_470
  let v464 : BitVec 32 := Scalar.addi v462 v463
  v464.toNat
def k0_dev15 (d0 : Dev nD) : Nat :=
  let c0_i32_473 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_472 : BitVec 32 := 16#32
  let v469 : BitVec 32 := Scalar.muli v2 c16_i32_472
  let v470 : BitVec 32 := Scalar.addi c0_i32_473 v469
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_474 : BitVec 32 := 4#32
  let v471 : BitVec 32 := Scalar.muli v5 c4_i32_474
  let v472 : BitVec 32 := Scalar.addi v470 v471
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.xori v8 c1_i32_2
  let c1_i32_475 : BitVec 32 := 1#32
  let v473 : BitVec 32 := Scalar.muli v9 c1_i32_475
  let v474 : BitVec 32 := Scalar.addi v472 v473
  v474.toNat
def k0_dev16 (d0 : Dev nD) : Nat :=
  let c0_i32_478 : BitVec 32 := 0#32
  let c1_i32_17 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v33 : BitVec 32 := Scalar.subi c1_i32_17 v2
  let c16_i32_477 : BitVec 32 := 16#32
  let v479 : BitVec 32 := Scalar.muli v33 c16_i32_477
  let v480 : BitVec 32 := Scalar.addi c0_i32_478 v479
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_479 : BitVec 32 := 4#32
  let v481 : BitVec 32 := Scalar.muli v5 c4_i32_479
  let v482 : BitVec 32 := Scalar.addi v480 v481
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.xori v8 c1_i32_2
  let c1_i32_480 : BitVec 32 := 1#32
  let v483 : BitVec 32 := Scalar.muli v9 c1_i32_480
  let v484 : BitVec 32 := Scalar.addi v482 v483
  v484.toNat
def k0_off4 (d0 : Dev nD) (c2_i32_481 : BitVec 32) : Fin 3 → Nat :=
  let c0_494 : Index := 0#32
  let c0_495 : Index := 0#32
  let c2_i32_18 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v34 : BitVec 32 := Scalar.muli c2_i32_18 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_19 : BitVec 32 := 2#32
  let c0_i32_20 : BitVec 32 := 0#32
  let v35 : BitVec 1 := Scalar.cmpi .eq c2_i32_19 c0_i32_20
  let c1_i32_21 : BitVec 32 := 1#32
  let v36 : BitVec 32 := Scalar.select v35 c1_i32_21 c2_i32_19
  let v37 : BitVec 32 := Scalar.remsi v8 v36
  let c0_i32_23 : BitVec 32 := 0#32
  let v39 : BitVec 1 := Scalar.cmpi .slt v37 c0_i32_23
  let c0_i32_24 : BitVec 32 := 0#32
  let v40 : BitVec 1 := Scalar.cmpi .slt v36 c0_i32_24
  let v41 : BitVec 1 := Scalar.xori v39 v40
  let c0_i32_22 : BitVec 32 := 0#32
  let v38 : BitVec 1 := Scalar.cmpi .ne v37 c0_i32_22
  let v42 : BitVec 1 := Scalar.andi v41 v38
  let v43 : BitVec 32 := Scalar.addi v37 v36
  let v44 : BitVec 32 := Scalar.select v42 v43 v37
  let v45 : BitVec 32 := Scalar.addi v34 v44
  let v489 : BitVec 32 := Scalar.xori v45 c2_i32_481
  let c128_i32_493 : BitVec 32 := 128#32
  let v502 : BitVec 32 := Scalar.muli v489 c128_i32_493
  let v503 : Index := Scalar.indexCast v502
  ![0, 0, v503.toNat]
abbrev stage0_0 : Fin 1 → Memref sig .tc .vmem S4x2x256x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x2x256x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x2x256x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2x1024x8x64 : Shape := ⟨4, ![2, 1024, 8, 64]⟩
abbrev S2x8x1024x1024 : Shape := ⟨4, ![2, 8, 1024, 1024]⟩
abbrev S_ : Shape := ⟨0, ![]⟩
abbrev S2x8x1024 : Shape := ⟨3, ![2, 8, 1024]⟩
abbrev S2x8x1024x1 : Shape := ⟨4, ![2, 8, 1024, 1]⟩
abbrev S2x8x64x1024 : Shape := ⟨4, ![2, 8, 64, 1024]⟩

abbrev nBuf : Space → Nat
  | .hbm => 23
  | .vmem => 0
  | .smem => 0
  | _ => 0

abbrev bufTy : (tb : Table) → Fin (tcTables nBuf tb) → BufTy
  | .hbm, ⟨0, _⟩ => ⟨S2x1024x8x64, .bf16⟩
  | .hbm, ⟨1, _⟩ => ⟨S2x1024x8x64, .bf16⟩
  | .hbm, ⟨2, _⟩ => ⟨S2x1024x8x64, .bf16⟩
  | .hbm, ⟨3, _⟩ => ⟨S2x1024x8x64, .f32⟩
  | .hbm, ⟨4, _⟩ => ⟨S2x1024x8x64, .f32⟩
  | .hbm, ⟨5, _⟩ => ⟨S2x1024x8x64, .f32⟩
  | .hbm, ⟨6, _⟩ => ⟨S2x8x1024x1024, .f32⟩
  | .hbm, ⟨7, _⟩ => ⟨S_, .f32⟩
  | .hbm, ⟨8, _⟩ => ⟨S2x8x1024x1024, .f32⟩
  | .hbm, ⟨9, _⟩ => ⟨S2x8x1024x1024, .f32⟩
  | .hbm, ⟨10, _⟩ => ⟨S_, .f32⟩
  | .hbm, ⟨11, _⟩ => ⟨S2x8x1024, .f32⟩
  | .hbm, ⟨12, _⟩ => ⟨S2x8x1024x1, .f32⟩
  | .hbm, ⟨13, _⟩ => ⟨S2x8x1024x1024, .f32⟩
  | .hbm, ⟨14, _⟩ => ⟨S2x8x1024x1024, .f32⟩
  | .hbm, ⟨15, _⟩ => ⟨S2x8x1024x1024, .f32⟩
  | .hbm, ⟨16, _⟩ => ⟨S_, .f32⟩
  | .hbm, ⟨17, _⟩ => ⟨S2x8x1024, .f32⟩
  | .hbm, ⟨18, _⟩ => ⟨S2x8x1024x1, .f32⟩
  | .hbm, ⟨19, _⟩ => ⟨S2x8x1024x1024, .f32⟩
  | .hbm, ⟨20, _⟩ => ⟨S2x8x1024x1024, .f32⟩
  | .hbm, ⟨21, _⟩ => ⟨S2x8x64x1024, .f32⟩
  | .hbm, ⟨22, _⟩ => ⟨S2x1024x8x64, .f32⟩
  | _, _ => ⟨S2x1024x8x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Proof.Same.lean ====
/-
The kernel as printed and the kernel printed for the extended reals are one text: read at the machine's words they are
the same program.
-/
module

public import proofs.«01_k».proof.Proof.Gen.Kernel
public import proofs.«01_k».proof.Proof.Gen.KernelIdeal
public import Idealize.ShloMosaic.PureOps.BitExact

@[expose] public section

noncomputable section

namespace Cert.Proof

open Idealize.ShloMosaic

theorem same_main : Cert.Kernel.main (F := Bits) = Cert.KernelIdeal.main (F := Bits) := rfl

theorem same_body : Cert.Kernel.defs₀ (F := Bits) = Cert.KernelIdeal.defs₀ (F := Bits) := by
  unfold Kernel.defs₀ KernelIdeal.defs₀
  refine congrArg Defs.onTc ?_
  funext l a
  fin_cases l
  obtain ⟨t, s⟩ := a
  dsimp only
  rfl

theorem same_defs : Cert.Kernel.defs (F := Bits) = Cert.KernelIdeal.defs (F := Bits) := by
  unfold Kernel.defs KernelIdeal.defs
  exact congrArg (Pipeline.defs (Cert.KernelIdeal.pcfgs (F := Bits))) same_body

end Cert.Proof

end
-- ==== Proof.Mesh.lean ====
/-
The mesh of thirty-two devices, and the five devices a device talks to.

Device `c` stands at `(x, y, z)` with `c = 16 x + 4 y + z`. Along `y` the devices form rings of four (the sequence is
cut along `y`); along `x` and `z` they hold the same blocks. A device computes the head pair numbered `quarter c`, and
the three devices at the other corners of its square in `x` and the lowest bit of `z` compute the other three pairs.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.RegionTalk
public import Idealize.ShloMosaic.Lib.Pipeline.Kit
public import Idealize.ShloMosaic.Lib.Tactic

@[expose] public section

set_option backward.proofsInPublic true

namespace Cert.KernelIdeal.Talk

open Cert.KernelIdeal Cert.KernelIdeal.Gen
open Idealize.ShloMosaic

/-! ## Neighbours -/

/-- The next device along `y`, round the ring. -/
def right (c : Dev nD) : Dev nD := ⟨(16 * (c.val / 16) + 4 * ((c.val / 4 + 1) % 4) + c.val % 4) % 32, Nat.mod_lt _ (by decide)⟩
/-- The previous device along `y`. -/
def left (c : Dev nD) : Dev nD := ⟨(16 * (c.val / 16) + 4 * ((c.val / 4 + 3) % 4) + c.val % 4) % 32, Nat.mod_lt _ (by decide)⟩
/-- The device across `x`. -/
def across (c : Dev nD) : Dev nD := ⟨(c.val + 16) % 32, Nat.mod_lt _ (by decide)⟩
/-- The device whose `z` differs in the lowest bit. -/
def beside (c : Dev nD) : Dev nD := ⟨(c.val / 2 * 2 + (c.val + 1) % 2) % 32, Nat.mod_lt _ (by decide)⟩
/-- The device across `x` and beside in `z`. -/
def corner (c : Dev nD) : Dev nD := across (beside c)

theorem left_right (c : Dev nD) : left (right c) = c := by revert c; decide
theorem right_left (c : Dev nD) : right (left c) = c := by revert c; decide
theorem across_across (c : Dev nD) : across (across c) = c := by revert c; decide
theorem beside_beside (c : Dev nD) : beside (beside c) = c := by revert c; decide
theorem corner_corner (c : Dev nD) : corner (corner c) = c := by revert c; decide
theorem left_left (c : Dev nD) : left (left c) = right (right c) := by revert c; decide

/-- The five devices, in the order in which a device signals them. -/
def nbr : Fin 5 → Dev nD ≃ Dev nD
  | 0 => ⟨left, right, right_left, left_right⟩
  | 1 => ⟨right, left, left_right, right_left⟩
  | 2 => ⟨across, across, across_across, across_across⟩
  | 3 => ⟨beside, beside, beside_beside, beside_beside⟩
  | 4 => ⟨corner, corner, corner_corner, corner_corner⟩

/-- Which of the five devices transfer `i` goes to. -/
def way : Fin 11 → Fin 5
  | 0 | 1 | 4 | 5 => 1
  | 2 | 3 | 6 | 7 => 0
  | 8 => 2
  | 9 => 3
  | 10 => 4

/-- The device transfer `i` of device `c` goes to. -/
abbrev peer (i : Fin 11) (c : Dev nD) : Dev nD := nbr (way i) c

/-! ## The device numbers the program computes -/

theorem dev1_eq (c : Dev nD) : (⟨k0_dev1 c, k0_dev1_lt c⟩ : Dev nD) = nbr 0 c := by revert c; decide +kernel
theorem dev2_eq (c : Dev nD) : (⟨k0_dev2 c, k0_dev2_lt c⟩ : Dev nD) = nbr 1 c := by revert c; decide +kernel
theorem dev3_eq (c : Dev nD) : (⟨k0_dev3 c, k0_dev3_lt c⟩ : Dev nD) = nbr 2 c := by revert c; decide +kernel
theorem dev4_eq (c : Dev nD) : (⟨k0_dev4 c, k0_dev4_lt c⟩ : Dev nD) = nbr 3 c := by revert c; decide +kernel
theorem dev5_eq (c : Dev nD) : (⟨k0_dev5 c, k0_dev5_lt c⟩ : Dev nD) = nbr 4 c := by revert c; decide +kernel
theorem dev6_eq (c : Dev nD) : (⟨k0_dev6 c, k0_dev6_lt c⟩ : Dev nD) = peer 0 c := by revert c; decide +kernel
theorem dev7_eq (c : Dev nD) : (⟨k0_dev7 c, k0_dev7_lt c⟩ : Dev nD) = peer 1 c := by revert c; decide +kernel
theorem dev8_eq (c : Dev nD) : (⟨k0_dev8 c, k0_dev8_lt c⟩ : Dev nD) = peer 2 c := by revert c; decide +kernel
theorem dev9_eq (c : Dev nD) : (⟨k0_dev9 c, k0_dev9_lt c⟩ : Dev nD) = peer 3 c := by revert c; decide +kernel
theorem dev10_eq (c : Dev nD) : (⟨k0_dev10 c, k0_dev10_lt c⟩ : Dev nD) = peer 4 c := by revert c; decide +kernel
theorem dev11_eq (c : Dev nD) : (⟨k0_dev11 c, k0_dev11_lt c⟩ : Dev nD) = peer 5 c := by revert c; decide +kernel
theorem dev12_eq (c : Dev nD) : (⟨k0_dev12 c, k0_dev12_lt c⟩ : Dev nD) = peer 6 c := by revert c; decide +kernel
theorem dev13_eq (c : Dev nD) : (⟨k0_dev13 c, k0_dev13_lt c⟩ : Dev nD) = peer 7 c := by revert c; decide +kernel
theorem dev14_eq (c : Dev nD) : (⟨k0_dev14 c, k0_dev14_lt c⟩ : Dev nD) = peer 8 c := by revert c; decide +kernel
theorem dev15_eq (c : Dev nD) : (⟨k0_dev15 c, k0_dev15_lt c⟩ : Dev nD) = peer 9 c := by revert c; decide +kernel
theorem dev16_eq (c : Dev nD) : (⟨k0_dev16 c, k0_dev16_lt c⟩ : Dev nD) = peer 10 c := by revert c; decide +kernel

/-! ## The head pair a device computes -/

/-- The number of the head pair device `c` computes: two bits, the `x` coordinate and the lowest bit of `z`. -/
def quarter (c : Dev nD) : Fin 4 := ⟨(2 * (c.val / 16) + c.val % 2) % 4, Nat.mod_lt _ (by decide)⟩

theorem off1_eq (c : Dev nD) : k0_off1 c = ![(quarter c).val, 0, 0, 0] := by revert c; decide +kernel
theorem off2_eq (c : Dev nD) : k0_off2 c = ![(quarter c).val, 0, 0, 0] := by revert c; decide +kernel
theorem off3_eq (c : Dev nD) : k0_off3 c = ![0, 0, 128 * (quarter c).val] := by revert c; decide +kernel
theorem off4_across (c : Dev nD) : k0_off4 c 2#32 = ![0, 0, 128 * (quarter (across c)).val] := by revert c; decide +kernel
theorem off4_beside (c : Dev nD) : k0_off4 c 1#32 = ![0, 0, 128 * (quarter (beside c)).val] := by revert c; decide +kernel
theorem off4_corner (c : Dev nD) : k0_off4 c 3#32 = ![0, 0, 128 * (quarter (corner c)).val] := by revert c; decide +kernel

theorem quarter_left (c : Dev nD) : quarter (left c) = quarter c := by revert c; decide
theorem quarter_right (c : Dev nD) : quarter (right c) = quarter c := by revert c; decide

/-- The four head pairs are those of the device and of the three others of its square. -/
theorem quarters (c : Dev nD) (q : Fin 4) :
    q = quarter c ∨ q = quarter (across c) ∨ q = quarter (beside c) ∨ q = quarter (corner c) := by revert c q; decide

end Cert.KernelIdeal.Talk
-- ==== Proof.Values.lean ====
/-
What the buffers of the kernel hold, as functions.

The kernel adds up, over four pieces of the sequence (its own, its left neighbour's, its right neighbour's and the far
one's), the row sums of the exponentials of the scores and their products with the values, one head at a time. Here
each stage is named as a function of the query block and of the key and value pieces it has used so far.
-/
module

public import proofs.«01_k».proof.Proof.Mesh

@[expose] public section

noncomputable section

namespace Cert.KernelIdeal.Talk

open Cert.KernelIdeal Cert.KernelIdeal.Gen
open Idealize.ShloMosaic

/-! ## The buffers -/

abbrev qM : Memref sig .tc .vmem S4x2x256x128 .bf16 := Memref.whole cc0_stg0_0
abbrev kM : Memref sig .tc .vmem S4x2x256x128 .bf16 := Memref.whole cc0_stg1_0
abbrev vM : Memref sig .tc .vmem S4x2x256x128 .bf16 := Memref.whole cc0_stg2_0
abbrev oM : Memref sig .tc .vmem S2x256x512 .f32 := Memref.whole cc0_stg3_0
/-- Keys and values of the left neighbour, of the right one and of the far one. -/
abbrev lkM : Memref sig .tc .vmem S2x256x128 .bf16 := Memref.whole cc0_scratch0
abbrev lvM : Memref sig .tc .vmem S2x256x128 .bf16 := Memref.whole cc0_scratch1
abbrev rkM : Memref sig .tc .vmem S2x256x128 .bf16 := Memref.whole cc0_scratch2
abbrev rvM : Memref sig .tc .vmem S2x256x128 .bf16 := Memref.whole cc0_scratch3
abbrev fkM : Memref sig .tc .vmem S2x256x128 .bf16 := Memref.whole cc0_scratch4
abbrev fvM : Memref sig .tc .vmem S2x256x128 .bf16 := Memref.whole cc0_scratch5
/-- The scaled query. -/
abbrev bM : Memref sig .tc .vmem S2x256x128 .bf16 := Memref.whole cc0_scratch6
/-- The result to send, and the three received. -/
abbrev sM : Memref sig .tc .vmem S2x256x128 .bf16 := Memref.whole cc0_scratch7
abbrev xM : Memref sig .tc .vmem S2x256x128 .bf16 := Memref.whole cc0_scratch8
abbrev zM : Memref sig .tc .vmem S2x256x128 .bf16 := Memref.whole cc0_scratch9
abbrev dM : Memref sig .tc .vmem S2x256x128 .bf16 := Memref.whole cc0_scratch10
/-- The weighted sums, and the sums of the weights. -/
abbrev aM : Memref sig .tc .vmem S2x256x128 .f32 := Memref.whole cc0_scratch11
abbrev wM : Memref sig .tc .vmem S2x2x256x1 .f32 := Memref.whole cc0_scratch12

/-! ## The rectangles the kernel reads and writes -/

/-- The columns of the first and of the second head of a pair. -/
abbrev head0 : Rect S2x256x128 := Rect.unit (s := S2x256x128) ![0, 0, 0] S2x256x64.size inb_S2x256x128_S2x256x64_0_0_0
abbrev head1 : Rect S2x256x128 := Rect.unit (s := S2x256x128) ![0, 0, 64] S2x256x64.size inb_S2x256x128_S2x256x64_0_0_64
/-- The sums of the first and of the second head. -/
abbrev sum0 : Rect S2x2x256x1 := Rect.unit (s := S2x2x256x1) ![0, 0, 0, 0] S2x1x256x1.size inb_S2x2x256x1_S2x1x256x1_0_0_0_0
abbrev sum1 : Rect S2x2x256x1 := Rect.unit (s := S2x2x256x1) ![0, 1, 0, 0] S2x1x256x1.size inb_S2x2x256x1_S2x1x256x1_0_1_0_0
/-- The first and the second half of the rows. -/
abbrev upper : Rect S2x256x128 := Rect.unit (s := S2x256x128) ![0, 0, 0] S2x128x128.size inb_S2x256x128_S2x128x128_0_0_0
abbrev lower : Rect S2x256x128 := Rect.unit (s := S2x256x128) ![0, 128, 0] S2x128x128.size inb_S2x256x128_S2x128x128_0_128_0
/-- The whole of a buffer. -/
abbrev full3 : Rect S2x256x128 := Rect.unit (s := S2x256x128) ![0, 0, 0] S2x256x128.size inb_S2x256x128_S2x256x128_0_0_0
abbrev full4 : Rect S2x2x256x1 := Rect.unit (s := S2x2x256x1) ![0, 0, 0, 0] S2x2x256x1.size inb_S2x2x256x1_S2x2x256x1_0_0_0_0
/-- Device `c`'s head pair in a staged block, and in the staged result. -/
abbrev pairQ (c : Dev nD) : Rect S4x2x256x128 := Rect.unit (s := S4x2x256x128) (k0_off2 c) S1x2x256x128.size (k0_off2_inb c)
abbrev pairK (c : Dev nD) : Rect S4x2x256x128 := Rect.unit (s := S4x2x256x128) (k0_off1 c) S1x2x256x128.size (k0_off1_inb c)
abbrev pairO (c : Dev nD) : Rect S2x256x512 := Rect.unit (s := S2x256x512) (k0_off3 c) S2x256x128.size (k0_off3_inb c)

/-- Device `c`'s own keys and values of its head pair. -/
abbrev kqM (c : Dev nD) : Memref sig .tc .vmem S2x256x128 .bf16 :=
  (kM.slice (pairK c) (fun _ => rfl)).squeeze S2x256x128 squeezes_S1x2x256x128_S2x256x128
abbrev vqM (c : Dev nD) : Memref sig .tc .vmem S2x256x128 .bf16 :=
  (vM.slice (pairK c) (fun _ => rfl)).squeeze S2x256x128 squeezes_S1x2x256x128_S2x256x128

variable {F : FTy → Type} [FloatOps F]

/-- A function on a shape, restricted to a rectangle. -/
abbrev part {s : Shape} {α : Type} (r : Rect s) (X : s.Idx → α) : r.shape.Idx → α := fun j => X (r.emb j)

/-! ## One device's sums -/

section Sums

/-- The scaled query, own, left, right and far keys and values. -/
structure Pieces (F : FTy → Type) where
  q : S2x256x128.Idx → F .bf16
  ok : S2x256x128.Idx → F .bf16
  ov : S2x256x128.Idx → F .bf16
  lk : S2x256x128.Idx → F .bf16
  lv : S2x256x128.Idx → F .bf16
  rk : S2x256x128.Idx → F .bf16
  rv : S2x256x128.Idx → F .bf16
  fk : S2x256x128.Idx → F .bf16
  fv : S2x256x128.Idx → F .bf16

variable (P : Pieces F)

/-- Sums of the first head after the own, left, right and far pieces. -/
def wOwn0 : S2x1x256x1.Idx → F .f32 := k0_pay6 (part head0 P.q) (part head0 P.ok) (part sum0 (k0_pay4 (F := F)))
def aOwn0 : S2x256x64.Idx → F .f32 := k0_pay7 (k0_pay5 (part head0 P.q) (part head0 P.ok)) (part head0 P.ov) (part head0 (k0_pay3 (F := F)))
def wLeft0 : S2x1x256x1.Idx → F .f32 := k0_pay12 (part head0 P.q) (part head0 P.lk) (wOwn0 P)
def aLeft0 : S2x256x64.Idx → F .f32 := k0_pay13 (part head0 P.q) (part head0 P.lk) (part head0 P.lv) (aOwn0 P)
def wRight0 : S2x1x256x1.Idx → F .f32 := k0_pay19 (part head0 P.q) (part head0 P.rk) (wLeft0 P)
def aRight0 : S2x256x64.Idx → F .f32 := k0_pay20 (part head0 P.q) (part head0 P.rk) (part head0 P.rv) (aLeft0 P)
def wAll0 : S2x1x256x1.Idx → F .f32 := k0_pay25 (part head0 P.q) (part head0 P.fk) (wRight0 P)
def aAll0 : S2x256x64.Idx → F .f32 := k0_pay26 (part head0 P.q) (part head0 P.fk) (part head0 P.fv) (aRight0 P)
/-- Sums of the second head. -/
def wOwn1 : S2x1x256x1.Idx → F .f32 := k0_pay9 (part head1 P.q) (part head1 P.ok) (part sum1 (k0_pay4 (F := F)))
def aOwn1 : S2x256x64.Idx → F .f32 := k0_pay10 (k0_pay8 (part head1 P.q) (part head1 P.ok)) (part head1 P.ov) (part head1 (k0_pay3 (F := F)))
def wLeft1 : S2x1x256x1.Idx → F .f32 := k0_pay16 (k0_pay14 (part head1 P.q) (part head1 P.lk)) (k0_pay15 (wOwn1 P))
def aLeft1 : S2x256x64.Idx → F .f32 := k0_pay17 (k0_pay14 (part head1 P.q) (part head1 P.lk)) (part head1 P.lv) (aOwn1 P)
def wRight1 : S2x1x256x1.Idx → F .f32 := k0_pay22 (k0_pay21 (part head1 P.q) (part head1 P.rk)) (wLeft1 P)
def aRight1 : S2x256x64.Idx → F .f32 := k0_pay23 (k0_pay21 (part head1 P.q) (part head1 P.rk)) (part head1 P.rv) (aLeft1 P)
def wAll1 : S2x1x256x1.Idx → F .f32 := k0_pay28 (part head1 P.q) (part head1 P.fk) (wRight1 P)
def aAll1 : S2x256x64.Idx → F .f32 := k0_pay29 (part head1 P.q) (part head1 P.fk) (part head1 P.fv) (aRight1 P)

/-- The device's own result, both heads side by side: as it writes it and as it sends it. -/
def result : S2x256x128.Idx → F .f32 := k0_pay31 (k0_pay30 (aAll0 P) (wAll0 P)) (aAll1 P) (wAll1 P)
def packed : S2x256x128.Idx → F .bf16 := k0_pay32 (k0_pay30 (aAll0 P) (wAll0 P)) (aAll1 P) (wAll1 P)

end Sums

/-! ## What every device holds, by the staged blocks of all the devices -/

section Mesh

variable (Q K V : Dev nD → S4x2x256x128.Idx → F .bf16)

/-- Device `c`'s own keys and values of its head pair. -/
def ownK (c : Dev nD) : S2x256x128.Idx → F .bf16 := (kqM c).view.read (Elt F) (K c)
def ownV (c : Dev nD) : S2x256x128.Idx → F .bf16 := (vqM c).view.read (Elt F) (V c)

/-- What device `c` computes with. -/
def pieces (c : Dev nD) : Pieces F where
  q := k0_pay2 (k0_pay1 (part (pairQ c) (Q c)))
  ok := ownK K c
  ov := ownV V c
  lk := ownK K (left c)
  lv := ownV V (left c)
  rk := ownK K (right c)
  rv := ownV V (right c)
  fk := ownK K (left (left c))
  fv := ownV V (left (left c))

/-- What transfer `i` of device `c` carries. -/
def shp : Fin 11 → Shape
  | 4 | 5 | 6 | 7 => S2x128x128
  | _ => S2x256x128

def sent (i : Fin 11) (c : Dev nD) : (shp i).Idx → F .bf16 :=
  match i with
  | 0 => ownK K c
  | 1 => ownV V c
  | 2 => ownK K c
  | 3 => ownV V c
  | 4 => part upper (ownK K (left c))
  | 5 => part upper (ownV V (left c))
  | 6 => part lower (ownK K (right c))
  | 7 => part lower (ownV V (right c))
  | 8 => packed (pieces Q K V c)
  | 9 => packed (pieces Q K V c)
  | 10 => packed (pieces Q K V c)

end Mesh

end Cert.KernelIdeal.Talk
-- ==== Proof.Talk.lean ====
/-
The protocol: which counters there are, who raises them, and what each rise hands over.

Every device first raises the barrier counters of its five neighbours, handing each the landing buffers that neighbour
will write on it. Transfer `i` then raises two counters: the sender's own, which gives the source back, and the
receiver's, which hands over the landing buffer holding what was sent.
-/
module

public import proofs.«01_k».proof.Proof.Values

@[expose] public section

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Resources -/

/-- The launch's own ghost state beside the protocol's. A counter is raised by at most five duties a round. -/
abbrev UU : Type := UR sig nD τ × URounds (GSem nD τ sig) (Fin 5)

local notation "𝕄" => MT nD τ sig Unit (Elt F) ℕ UU ℕ

abbrev EP : Emb (UR sig nD τ) (MT nD τ sig Unit (Elt F) ℕ UU ℕ) := embL
abbrev ER : Emb (URounds (GSem nD τ sig) (Fin 5)) (MT nD τ sig Unit (Elt F) ℕ UU ℕ) := embR

/-! ## Counters -/

abbrev barS : Sem sig := sig.barrier 0 rfl
def sndS (i : Fin 11) : DmaSem sig := ⟨4 + i.val, by have := i.isLt; show 4 + i.val < 26; omega⟩
def rcvS (i : Fin 11) : DmaSem sig := ⟨15 + i.val, by have := i.isLt; show 15 + i.val < 26; omega⟩

abbrev bar (c : Dev nD) : GSem nD τ sig := ((c : Thread nD τ), .reg barS)
abbrev snd (c : Dev nD) (i : Fin 11) : GSem nD τ sig := ((c : Thread nD τ), .dma (sndS i))
abbrev rcv (c : Dev nD) (i : Fin 11) : GSem nD τ sig := ((c : Thread nD τ), .dma (rcvS i))

/-! ## The ends of a transfer -/

/-- Where transfer `i` reads. -/
def srcM (i : Fin 11) (c : Dev nD) : Memref sig .tc .vmem (shp i) .bf16 :=
  match i with
  | 0 => kqM c
  | 1 => vqM c
  | 2 => kqM c
  | 3 => vqM c
  | 4 => lkM.slice upper (fun _ => rfl)
  | 5 => lvM.slice upper (fun _ => rfl)
  | 6 => rkM.slice lower (fun _ => rfl)
  | 7 => rvM.slice lower (fun _ => rfl)
  | 8 => sM
  | 9 => sM
  | 10 => sM

/-- Where transfer `i` writes, on the receiving device. -/
def dstM (i : Fin 11) : Memref sig .tc .vmem (shp i) .bf16 :=
  match i with
  | 0 => lkM
  | 1 => lvM
  | 2 => rkM
  | 3 => rvM
  | 4 => fkM.slice upper (fun _ => rfl)
  | 5 => fvM.slice upper (fun _ => rfl)
  | 6 => fkM.slice lower (fun _ => rfl)
  | 7 => fvM.slice lower (fun _ => rfl)
  | 8 => xM
  | 9 => zM
  | 10 => dM

/-- The share of its source a transfer holds: two or three run at once, and the device reads along. -/
def shareOf : Fin 11 → PosShare TreeShare
  | 0 | 1 => fullShare.right.left
  | 2 | 3 => fullShare.right.right
  | 4 | 5 | 6 | 7 => fullShare.right
  | 8 => fullShare.left
  | 9 => fullShare.right.left
  | 10 => fullShare.right.right

/-- What a transfer raises each of its two counters by. -/
def credit (i : Fin 11) : ℕ := (dstM i).view.dmaCredit

theorem shp_pos (i : Fin 11) : 0 < (shp i).numel := by revert i; decide
theorem credit_pos (i : Fin 11) : 0 < credit i := View.dmaCredit_pos _ (shp_pos i)

/-! ## The schedule -/

section Sched

variable (Q K V : Dev nD → S4x2x256x128.Idx → F .bf16)

/-- A device's landing buffer for transfer `i`, and that its receiving counter is open. -/
def slot (i : Fin 11) (c : Dev nD) : sProp 𝕄 :=
  iprop((∃ X, ownsTc c (dstM i) fullShare X) ∗ reached ER (rcv c i) 0)

/-- What the device that raises a barrier counter by duty `d` hands over: the landing buffers on it that the device
    raised writes. -/
def land (d : Fin 5) (c : Dev nD) : sProp 𝕄 :=
  match d with
  | 0 => iprop(slot 0 c ∗ slot 1 c ∗ slot 4 c ∗ slot 5 c)
  | 1 => iprop(slot 2 c ∗ slot 3 c ∗ slot 6 c ∗ slot 7 c)
  | 2 => slot 8 c
  | 3 => slot 9 c
  | 4 => slot 10 c

/-- The source of transfer `i`, back. -/
abbrev back (i : Fin 11) (c : Dev nD) : sProp 𝕄 := ownsTc c (srcM i c) (shareOf i) (sent Q K V i c)
/-- The landing buffer of transfer `i`, holding what the sender sent. -/
abbrev landed (i : Fin 11) (c : Dev nD) : sProp 𝕄 := ownsTc c (dstM i) fullShare (sent Q K V i ((nbr (way i)).symm c))

/-- What a rise of a transfer's counter hands over, by the counter's number. -/
def payDma (c : Dev nD) (q : ℕ) : sProp 𝕄 :=
  if h : q < 15 then back Q K V ⟨(q - 4) % 11, Nat.mod_lt _ (by decide)⟩ c
  else landed Q K V ⟨(q - 15) % 11, Nat.mod_lt _ (by decide)⟩ c

def amountDma (q : ℕ) : ℕ := credit ⟨(if q < 15 then q - 4 else q - 15) % 11, Nat.mod_lt _ (by decide)⟩

/-- The counters of the protocol: the barrier and the twenty-two of the transfers. -/
def dutiesOf : SemLoc sig → Finset (Fin 5)
  | .reg s => if s = barS then Finset.univ else ∅
  | .dma q => if 4 ≤ q.val then {0} else ∅

/-- One round: on a barrier counter five duties of one unit, on a transfer's counter one. -/
def rd : Rounds.Schedule (GSem nD τ sig) (Fin 5) 𝕄 where
  duties g r := if r = 0 ∧ g.1.2 = .tc then dutiesOf g.2 else ∅
  unitless _ := False
  amount g _ _ := match g.2 with
    | .reg _ => 1
    | .dma q => amountDma q.val
  payload g _ d := match g.2 with
    | .reg _ => land d ((nbr d).symm g.1.1)
    | .dma q => payDma Q K V g.1.1 q.val
  amount_pos g _ _ _ := by
    rcases g with ⟨t, s | q⟩
    · exact Nat.one_pos
    · exact credit_pos _

instance slot_storable (i : Fin 11) (c : Dev nD) : BI.Storable (upEmb : UEmb _ 𝕄) (slot (F := F) i c) := by
  unfold slot; infer_instance

instance land_storable (d : Fin 5) (c : Dev nD) : BI.Storable (upEmb : UEmb _ 𝕄) (land (F := F) d c) := by
  fin_cases d <;> (dsimp only [land]; infer_instance)

instance payload_storable (g : GSem nD τ sig) (r : ℕ) (d : Fin 5) :
    BI.Storable (upEmb : UEmb _ 𝕄) ((rd Q K V).payload g r d) := by
  rcases g with ⟨t, s | q⟩
  · exact land_storable d _
  · show BI.Storable _ (payDma Q K V t.1 q.val)
    unfold payDma; split <;> infer_instance

/-! ### The schedule at each counter -/

variable (c : Dev nD) (i : Fin 11)

theorem duties_bar : (rd Q K V).duties (bar c) 0 = Finset.univ := rfl
theorem duties_snd : (rd Q K V).duties (snd c i) 0 = {0} := by
  show (if (0 : ℕ) = 0 ∧ True then (if 4 ≤ 4 + i.val then ({0} : Finset (Fin 5)) else ∅) else ∅) = _
  rw [if_pos ⟨rfl, trivial⟩, if_pos (by omega)]
theorem duties_rcv : (rd Q K V).duties (rcv c i) 0 = {0} := by
  show (if (0 : ℕ) = 0 ∧ True then (if 4 ≤ 15 + i.val then ({0} : Finset (Fin 5)) else ∅) else ∅) = _
  rw [if_pos ⟨rfl, trivial⟩, if_pos (by omega)]
theorem duties_later (g : GSem nD τ sig) : ∀ r, 1 ≤ r → (rd Q K V).duties g r = ∅ :=
  fun r hr => if_neg fun h => absurd h.1 (by omega)

theorem amount_bar (d : Fin 5) : (rd Q K V).amount (bar c) 0 d = 1 := rfl
theorem amount_snd (d : Fin 5) : (rd Q K V).amount (snd c i) 0 d = credit i := by
  show amountDma (4 + i.val) = credit i
  unfold amountDma
  congr 1
  exact Fin.ext (by have := i.isLt; show (if 4 + i.val < 15 then 4 + i.val - 4 else 4 + i.val - 15) % 11 = i.val; rw [if_pos (by omega)]; omega)
theorem amount_rcv (d : Fin 5) : (rd Q K V).amount (rcv c i) 0 d = credit i := by
  show amountDma (15 + i.val) = credit i
  unfold amountDma
  congr 1
  exact Fin.ext (by have := i.isLt; show (if 15 + i.val < 15 then 15 + i.val - 4 else 15 + i.val - 15) % 11 = i.val; rw [if_neg (by omega)]; omega)

theorem expect_bar : (rd Q K V).expect (bar c) 0 = 5 := by
  unfold Schedule.expect Schedule.amountOf
  rw [duties_bar, Finset.sum_congr rfl fun d _ => amount_bar Q K V c d]
  rfl
theorem expect_snd : (rd Q K V).expect (snd c i) 0 = credit i := by
  unfold Schedule.expect Schedule.amountOf; rw [duties_snd, Finset.sum_singleton, amount_snd]
theorem expect_rcv : (rd Q K V).expect (rcv c i) 0 = credit i := by
  unfold Schedule.expect Schedule.amountOf; rw [duties_rcv, Finset.sum_singleton, amount_rcv]

theorem payload_bar (d : Fin 5) : (rd Q K V).payload (bar c) 0 d = land d ((nbr d).symm c) := rfl
theorem payload_snd (d : Fin 5) : (rd Q K V).payload (snd c i) 0 d = back Q K V i c := by
  show payDma Q K V c (4 + i.val) = _
  have hi := i.isLt
  have h : (⟨(4 + i.val - 4) % 11, Nat.mod_lt _ (by decide)⟩ : Fin 11) = i := Fin.ext (by show (4 + i.val - 4) % 11 = i.val; omega)
  unfold payDma
  rw [dif_pos (by omega), h]
theorem payload_rcv (d : Fin 5) : (rd Q K V).payload (rcv c i) 0 d = landed Q K V i c := by
  show payDma Q K V c (15 + i.val) = _
  have hi := i.isLt
  have h : (⟨(15 + i.val - 15) % 11, Nat.mod_lt _ (by decide)⟩ : Fin 11) = i := Fin.ext (by show (15 + i.val - 15) % 11 = i.val; omega)
  unfold payDma
  rw [dif_neg (by omega), h]

theorem rest_snd : bigSep ((rd Q K V).duties (snd c i) 0 \ ∅) (fun d => (rd Q K V).payload (snd c i) 0 d) = back Q K V i c := by
  rw [Finset.sdiff_empty, duties_snd, bigSep_singleton, payload_snd]
theorem rest_rcv : bigSep ((rd Q K V).duties (rcv c i) 0 \ ∅) (fun d => (rd Q K V).payload (rcv c i) 0 d) = landed Q K V i c := by
  rw [Finset.sdiff_empty, duties_rcv, bigSep_singleton, payload_rcv]
theorem rest_bar : bigSep ((rd Q K V).duties (bar c) 0 \ ∅) (fun d => (rd Q K V).payload (bar c) 0 d)
    = iprop(land 0 ((nbr 0).symm c) ∗ land 1 ((nbr 1).symm c) ∗ land 2 ((nbr 2).symm c) ∗ land 3 ((nbr 3).symm c) ∗ land 4 ((nbr 4).symm c)) := by
  rw [Finset.sdiff_empty, duties_bar]
  exact bigSep_univ_eq_bigSepL ([0, 1, 2, 3, 4] : List (Fin 5)) (by decide) (by decide) _

end Sched

/-! ## What a device owes, and the order of waiting -/

/-- What is owed by a list of counters and amounts, the head paid first. -/
def owe : List (GSem nD τ sig × ℕ) → CellTallies nD τ sig Unit
  | [] => 0
  | x :: xs => owe xs + tallyAt x.1 () x.2

theorem owe_cons (x : GSem nD τ sig × ℕ) (xs : List (GSem nD τ sig × ℕ)) : owe (x :: xs) = owe xs + tallyAt x.1 () x.2 := rfl

theorem mem_of_owe_pos {xs : List (GSem nD τ sig × ℕ)} {g : GSem nD τ sig} {u : Unit} (h : 0 < owe xs g u) :
    ∃ x ∈ xs, x.1 = g := by
  induction xs with
  | nil => exact absurd h (Nat.lt_irrefl 0)
  | cons x xs ih =>
    by_cases hg : g = x.1
    · exact ⟨x, List.mem_cons_self, hg.symm⟩
    · have h' : 0 < owe xs g u := by
        have he : owe (x :: xs) g u = owe xs g u + tallyAt x.1 () x.2 g u := rfl
        rw [he, tallyAt_apply, if_neg fun hh => hg hh.1] at h
        exact h
      obtain ⟨y, hy, e⟩ := ih h'
      exact ⟨y, List.mem_cons_of_mem _ hy, e⟩

/-- What a device raises on other devices, in the order of the program: five barrier counters, eleven transfers. -/
def debts (c : Dev nD) : List (GSem nD τ sig × ℕ) :=
  [(bar (nbr 0 c), 1), (bar (nbr 1 c), 1), (bar (nbr 2 c), 1), (bar (nbr 3 c), 1), (bar (nbr 4 c), 1),
   (rcv (peer 0 c) 0, credit 0), (rcv (peer 1 c) 1, credit 1), (rcv (peer 2 c) 2, credit 2), (rcv (peer 3 c) 3, credit 3),
   (rcv (peer 4 c) 4, credit 4), (rcv (peer 5 c) 5, credit 5), (rcv (peer 6 c) 6, credit 6), (rcv (peer 7 c) 7, credit 7),
   (rcv (peer 8 c) 8, credit 8), (rcv (peer 9 c) 9, credit 9), (rcv (peer 10 c) 10, credit 10)]

/-- What is still owed once the first `n` are paid. -/
abbrev debt (n : ℕ) (c : Dev nD) : CellTallies nD τ sig Unit := owe ((debts c).drop n)

def L (g : GSem nD τ sig) : Finset Unit := if g.1.2 = .tc then {()} else ∅

/-- The order of waiting: barriers, then the neighbours' keys and values, then the far ones, then the results. -/
def level : SemLoc sig → ℕ
  | .reg _ => 1
  | .dma q => if q.val < 15 then 0 else if q.val < 19 then 2 else if q.val < 23 then 3 else 4

def lv (g : GSem nD τ sig) (_ : Unit) : ℕ := level g.2

theorem L_tc (c : Dev nD) (s : SemLoc sig) : L ((c : Thread nD τ), s) = {()} := if_pos rfl
theorem L_of_ne (g : GSem nD τ sig) (h : g.1.2 ≠ .tc) : L g = ∅ := if_neg h

/-- A device may wait on a counter whose level is below that of everything it still owes. -/
theorem mayWait (c : Dev nD) (s : SemLoc sig) (xs : List (GSem nD τ sig × ℕ))
    (hxs : ∀ x ∈ xs, x.1.1.2 = .tc ∧ level s < level x.1.2) :
    (levAts L lv : sProp 𝕄) ⊢ MayWait (c : Thread nD τ) s () (owe xs) :=
  MayOwe.of_cut (L := L) (lev := lv) (level s)
    (fun p hp => by rw [Finset.mem_singleton.mp hp, L_tc]; exact Finset.mem_singleton_self _)
    (fun g u hg => by
      obtain ⟨x, hx, rfl⟩ := mem_of_owe_pos hg
      unfold L; rw [if_pos (hxs x hx).1]; exact Finset.mem_singleton_self _)
    (fun p hp => by rw [Finset.mem_singleton.mp hp]; exact le_refl _)
    (fun g u hg => by obtain ⟨x, hx, rfl⟩ := mem_of_owe_pos hg; exact (hxs x hx).2)

end Cert.KernelIdeal.Talk
-- ==== Proof.Steps.lean ====
/-
One step of the kernel: a load, a store, a signal, the start of a transfer, a wait. Each is stated once, for every
buffer, every rectangle and every transfer.
-/
module

public import proofs.«01_k».proof.Proof.Talk

@[expose] public section

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- The weakest precondition of a program on device `c`. -/
abbrev run {α : Type} (c : Dev nD) (p : Prog (TpuEff nD τ sig (Elt F) Λ₀ .tc) α) (R : α → sProp 𝕄) : sProp 𝕄 :=
  wp frame (wpE (defs₀ (F := F)) 𝒱₀ (c : Thread nD τ) none) Set.univ p R

/-! ## Owning a memref -/

section Own

variable (c : Dev nD) {s : Shape} {e : EltTy} (m : Memref sig .tc .vmem s e) (q : PosShare TreeShare)

/-- A memref owned at what it reads of contents `f` is its elements at `f`. -/
theorem owns_read (f : m.view.ty.Contents (Elt F)) :
    (ownsTc c m q (m.view.read (Elt F) f) : sProp 𝕄) = (m.view.loc (c : Thread nD τ) ↦[m.view.set]{q} f) := by
  have h : (ownsTc c m q (m.view.read (Elt F) f) : sProp 𝕄)
      ⊢ iprop(∃ g, ⌜m.view.read (Elt F) g = m.view.read (Elt F) f⌝ ∗ (m.view.loc (c : Thread nD τ) ↦[m.view.set]{q} g)) := .rfl
  suffices h' : (ownsTc c m q (m.view.read (Elt F) f) : sProp 𝕄) ⊢ (m.view.loc (c : Thread nD τ) ↦[m.view.set]{q} f) from
    BI.equiv_iff.mp ⟨h', owns_intro (c : Thread nD τ) m q f⟩
  iintro H
  ihave H := h $$ H
  icases H with ⟨%g, %hg, H⟩
  have he : (m.view.loc (c : Thread nD τ) ↦[m.view.set]{q} g : sProp 𝕄) = (m.view.loc (c : Thread nD τ) ↦[m.view.set]{q} f) :=
    pointsTo_congr fun i hi => by
      rw [View.set, Finset.mem_map] at hi
      obtain ⟨x, -, rfl⟩ := hi
      have h := congrFun hg x
      simp only [View.read] at h
      exact (cast_inj _).mp h
  rw [← he]
  iexact H

/-- Any contents a memref is owned at are some buffer's contents read through it. -/
theorem owns_open (X : s.Idx → Elt F e) :
    (ownsTc c m q X : sProp 𝕄) ⊢ iprop(∃ f, ⌜m.view.read (Elt F) f = X⌝ ∗ (m.view.loc (c : Thread nD τ) ↦[m.view.set]{q} f)) := by
  unfold ownsTc owns; exact .rfl

/-- The two halves of a share. -/
theorem owns_halves (X : s.Idx → Elt F e) :
    (ownsTc c m q X : sProp 𝕄) ⊢ iprop(ownsTc c m q.left X ∗ ownsTc c m q.right X) := by
  iintro H
  ihave H := (owns_open c m q X) $$ H
  icases H with ⟨%f, %hf, H⟩
  subst hf
  rw [owns_read, owns_read]
  iapply (pointsTo_share (PosShare.mem_left_op_right q)).1
  iexact H

theorem owns_join (X : s.Idx → Elt F e) :
    iprop(ownsTc c m q.left X ∗ ownsTc c m q.right X) ⊢ (ownsTc c m q X : sProp 𝕄) := by
  iintro ⟨H, H'⟩
  ihave H := (owns_open c m q.left X) $$ H
  icases H with ⟨%f, %hf, H⟩
  subst hf
  ihave H' := (Entails.of_eq (owns_read c m q.right f)) $$ H'
  rw [owns_read]
  iapply (pointsTo_share (PosShare.mem_left_op_right q)).2
  isplitl [H]; · iexact H
  iexact H'

variable {m q}

/-- A load through a rectangle of a memref gives the memref's function there. -/
theorem step_load {α : Type} {X : s.Idx → Elt F e} {r : Rect s} {hl : m.view.LoadsAt r} {k : (r.shape.Idx → Elt F e) → Prog (TpuEff nD τ sig (Elt F) Λ₀ .tc) α}
    {R : α → sProp 𝕄} :
    (ownsTc c m q X : sProp 𝕄) ⊢ iprop((ownsTc c m q X -∗ run c (k (part r X)) R) -∗ run c (.op (.load m r.toLoadRect hl) k) R) := by
  iintro H Hk
  ihave H := (owns_open c m q X) $$ H
  icases H with ⟨%f, %hf, H⟩
  subst hf
  rw [owns_read]
  iapply (wp_load_rect 𝒱₀ (c : Thread nD τ) none Set.univ (m := m) (r := r) (View.set_slice_subset _ _)) $$ H
  iintro H
  iapply Hk
  iexact H

/-- A load of a whole slice. -/
theorem step_load_slice {α : Type} {r : Rect s} {hr : ∀ a, r.stride a = 1} {X : r.shape.Idx → Elt F e} {hl : m.view.LoadsAt r}
    {k : (r.shape.Idx → Elt F e) → Prog (TpuEff nD τ sig (Elt F) Λ₀ .tc) α} {R : α → sProp 𝕄} :
    (ownsTc c (m.slice r hr) q X : sProp 𝕄)
      ⊢ iprop((ownsTc c (m.slice r hr) q X -∗ run c (k X) R) -∗ run c (.op (.load m r.toLoadRect hl) k) R) := by
  iintro H Hk
  ihave H := (owns_open c (m.slice r hr) q X) $$ H
  icases H with ⟨%f, %hf, H⟩
  subst hf
  rw [owns_read]
  iapply (wp_load_rect 𝒱₀ (c : Thread nD τ) none Set.univ (m := m) (r := r) (Finset.Subset.refl _)) $$ H
  iintro H
  iapply Hk
  iexact H

/-- A store to a whole slice. -/
theorem step_store {α : Type} {r : Rect s} {hr : ∀ a, r.stride a = 1} {X w : r.shape.Idx → Elt F e} {hx : (m.access r).Stores Finset.univ}
    {hm : (Finset.univ : Finset r.shape.Idx) = Finset.univ ∨ ∀ a, r.stride a = 1}
    {k : PUnit → Prog (TpuEff nD τ sig (Elt F) Λ₀ .tc) α} {R : α → sProp 𝕄} :
    (ownsTc c (m.slice r hr) fullShare X : sProp 𝕄)
      ⊢ iprop((ownsTc c (m.slice r hr) fullShare w -∗ run c (k ⟨⟩) R) -∗ run c (.op (.store m r w Finset.univ hx hm) k) R) := by
  iintro H Hk
  ihave H := (owns_open c (m.slice r hr) fullShare X) $$ H
  icases H with ⟨%f, %hf, H⟩
  iapply (wp_store 𝒱₀ (c : Thread nD τ) none Set.univ (m := m) (r := r) (S := (m.access r).set) (by rw [View.setOn_univ])) $$ H
  iintro H
  iapply Hk
  have he : (ownsTc c (m.slice r hr) fullShare w : sProp 𝕄)
      = ((m.slice r hr).view.loc (c : Thread nD τ) ↦[(m.slice r hr).view.set]{fullShare} ((m.access r).write (Elt F) f w Finset.univ)) := by
    rw [← owns_read]
    congr 1
    exact (View.read_write_univ (v := (m.slice r hr).view) f w).symm
  rw [he]
  iexact H

end Own

/-! ## Two slices that make up a memref -/

section Halves

variable (c : Dev nD) {s : Shape} {e : EltTy} (m : Memref sig .tc .vmem s e) (q : PosShare TreeShare)
  (r r' : Rect s) (hr : ∀ a, r.stride a = 1) (hr' : ∀ a, r'.stride a = 1)
  (hd : Disjoint r.set r'.set) (hc : r.set ∪ r'.set = Finset.univ)
include hd hc

theorem owns_split (X : s.Idx → Elt F e) :
    (ownsTc c m q X : sProp 𝕄) ⊢ iprop(ownsTc c (m.slice r hr) q (part r X) ∗ ownsTc c (m.slice r' hr') q (part r' X)) := by
  have h := owns_rects (c : Thread nD τ) m q (T := Bool) (fun b => if b then r else r')
    (fun b => by cases b; exacts [hr', hr]) (fun a b hab => by cases a <;> cases b <;> first | exact absurd rfl hab | exact hd | exact hd.symm)
    (by rw [← hc]; ext i; simp [or_comm]) (Name := ℕ) (U := UU) (Ix := Unit) (Lvl := ℕ) X
  refine h.trans ?_
  rw [bigSep_univ_eq_bigSepL [true, false] (by decide) (by decide)]
  exact .rfl

theorem owns_glue (X : s.Idx → Elt F e) [∀ e, Nonempty (Elt F e)] :
    iprop(ownsTc c (m.slice r hr) q (part r X) ∗ ownsTc c (m.slice r' hr') q (part r' X)) ⊢ (ownsTc c m q X : sProp 𝕄) := by
  have h := owns_of_rects (c : Thread nD τ) m q (T := Bool) (fun b => if b then r else r')
    (fun b => by cases b; exacts [hr', hr]) (fun a b hab => by cases a <;> cases b <;> first | exact absurd rfl hab | exact hd | exact hd.symm)
    (by rw [← hc]; ext i; simp [or_comm]) (Name := ℕ) (U := UU) (Ix := Unit) (Lvl := ℕ) X
  rw [bigSep_univ_eq_bigSepL [true, false] (by decide) (by decide)] at h
  exact h

end Halves

end Cert.KernelIdeal.Talk
-- ==== Proof.Moves.lean ====
/-
The steps at which devices meet: raising a barrier counter, waiting at the barrier, starting a transfer, waiting for
one to arrive, and waiting for one to have left. Each is stated once, for every neighbour and every transfer.
-/
module

public import proofs.«01_k».proof.Proof.Steps

@[expose] public section

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The counters, all together -/

def barCells : Finset (GSem nD τ sig) := Finset.univ.image bar
def moveCells : Finset (GSem nD τ sig) := Finset.univ.image (fun x : Dev nD × Fin 11 => snd x.1 x.2) ∪ Finset.univ.image (fun x : Dev nD × Fin 11 => rcv x.1 x.2)

theorem bar_mem (c : Dev nD) : bar c ∈ barCells := Finset.mem_image_of_mem _ (Finset.mem_univ c)
theorem snd_mem (c : Dev nD) (i : Fin 11) : snd c i ∈ moveCells :=
  Finset.mem_union_left _ (Finset.mem_image.mpr ⟨(c, i), Finset.mem_univ _, rfl⟩)
theorem rcv_mem (c : Dev nD) (i : Fin 11) : rcv c i ∈ moveCells :=
  Finset.mem_union_right _ (Finset.mem_image.mpr ⟨(c, i), Finset.mem_univ _, rfl⟩)

variable (Q K V : Dev nD → S4x2x256x128.Idx → F .bf16) (κ : GSem nD τ sig → ℕ)

/-- What every device knows throughout: each counter follows the schedule, and every barrier counter is open. -/
def records : sProp 𝕄 :=
  iprop((bigSep barCells fun g => cellInv ER (rd Q K V) (κ g) g) ∗ (bigSep moveCells fun g => cellInv ER (rd Q K V) (κ g) g)
    ∗ bigSep barCells fun g => reached ER g 0)

instance records_persistent : BI.Persistent (records Q K V κ) := by unfold records; infer_instance

theorem inv_bar (c : Dev nD) : records Q K V κ ⊢ cellInv ER (rd Q K V) (κ (bar c)) (bar c) := by
  unfold records; iintro ⟨H, -, -⟩
  iapply (show _ ⊢ cellInv ER (rd Q K V) (κ (bar c)) (bar c) from bigSep_elim (Φ := fun g => cellInv ER (rd Q K V) (κ g) g) (bar_mem c)); iexact H
theorem inv_move {g : GSem nD τ sig} (hg : g ∈ moveCells) : records Q K V κ ⊢ cellInv ER (rd Q K V) (κ g) g := by
  unfold records; iintro ⟨-, H, -⟩
  iapply (show _ ⊢ cellInv ER (rd Q K V) (κ g) g from bigSep_elim (Φ := fun g => cellInv ER (rd Q K V) (κ g) g) hg); iexact H
theorem bar_open (c : Dev nD) : records Q K V κ ⊢ (reached ER (bar c) 0 : sProp 𝕄) := by
  unfold records; iintro ⟨-, -, H⟩
  iapply (show _ ⊢ (reached ER (bar c) 0 : sProp 𝕄) from bigSep_elim (Φ := fun g => reached ER g 0) (bar_mem c)); iexact H

/-! ## The order of waiting -/

/-- The levels of what a device owes, in order. -/
def levels : List ℕ := [1, 1, 1, 1, 1, 2, 2, 2, 2, 3, 3, 3, 3, 4, 4, 4]

theorem levels_eq (c : Dev nD) : (debts c).map (fun x => level x.1.2) = levels := rfl

theorem debts_tc (c : Dev nD) : ∀ x ∈ debts c, x.1.1.2 = .tc := by
  intro x hx
  simp only [debts, List.mem_cons, List.not_mem_nil, or_false] at hx
  rcases hx with rfl | rfl | rfl | rfl | rfl | rfl | rfl | rfl | rfl | rfl | rfl | rfl | rfl | rfl | rfl | rfl <;> rfl

theorem mayWait_at (c : Dev nD) (s : SemLoc sig) (n : ℕ) (h : ∀ l ∈ levels.drop n, level s < l) :
    (levAts L lv : sProp 𝕄) ⊢ MayWait (c : Thread nD τ) s () (debt n c) :=
  mayWait c s _ fun x hx => ⟨debts_tc c x (List.mem_of_mem_drop hx), h _ (by
    rw [← levels_eq c, ← List.map_drop]; exact List.mem_map_of_mem hx)⟩

/-- Owing all but the first `n`. -/
def owing (n : ℕ) (c : Dev nD) : sProp 𝕄 := iprop(∃ W, owes (c : Thread nD τ) (debt n c) W)

/-! ## The barrier -/

theorem step_signal {α : Type} (c : Dev nD) (k : Fin 5) {p : Dev nD} (hp : p = nbr k c) {f : PUnit → Prog (TpuEff nD τ sig (Elt F) Λ₀ .tc) α} {R : α → sProp 𝕄} :
    iprop(records Q K V κ ∗ owing k.val c ∗ dutyTok ER (bar (nbr k c)) 0 k ∗ land k c)
      ⊢ iprop((owing (k.val + 1) c -∗ run c (f ⟨⟩) R) -∗ run c (.op (.semSignal (p : Thread nD τ) barS 1) f) R) := by
  subst hp
  have hO : debt k.val c = debt (k.val + 1) c + tallyAt (bar (nbr k c)) () 1 := by fin_cases k <;> rfl
  have hp : (rd Q K V).payload (bar (nbr k c)) 0 k = land k c := by rw [payload_bar, Equiv.symm_apply_apply]
  unfold owing
  iintro ⟨#HR, ⟨%W, HO⟩, Ht, Hl⟩ Hk
  iapply (Rounds.wp_signal 𝒱₀ ER (rd Q K V) (c : Thread nD τ) none (dst := ((nbr k c : Dev nD) : Thread nD τ)) (sem := barS) (r := 0) (d := k) (κ := κ (bar (nbr k c)))
      (by rw [duties_bar]; exact Finset.mem_univ k) (amount_bar Q K V (nbr k c) k) () (debt (k.val + 1) c) hO) $$ [HO Ht Hl]
  · isplitr; · iapply (inv_bar Q K V κ (nbr k c)); iexact HR
    isplitl [HO]; · iexact HO
    isplitl [Ht]; · iexact Ht
    isplitl [Hl]; · rw [hp]; iexact Hl
    iapply (bar_open Q K V κ (nbr k c)); iexact HR
  iintro HO
  iapply Hk
  iexists W; iexact HO

/-- At the barrier a device gets the landing buffers of all its transfers. -/
def slots (c : Dev nD) : sProp 𝕄 :=
  iprop((slot 0 (peer 0 c) ∗ slot 1 (peer 1 c) ∗ slot 4 (peer 4 c) ∗ slot 5 (peer 5 c))
    ∗ (slot 2 (peer 2 c) ∗ slot 3 (peer 3 c) ∗ slot 6 (peer 6 c) ∗ slot 7 (peer 7 c))
    ∗ slot 8 (peer 8 c) ∗ slot 9 (peer 9 c) ∗ slot 10 (peer 10 c))

theorem slots_eq (c : Dev nD) : (iprop(land 0 ((nbr 0).symm c) ∗ land 1 ((nbr 1).symm c) ∗ land 2 ((nbr 2).symm c) ∗ land 3 ((nbr 3).symm c)
    ∗ land 4 ((nbr 4).symm c)) : sProp 𝕄) = slots c := rfl

theorem step_barrier {α : Type} (c : Dev nD) {f : PUnit → Prog (TpuEff nD τ sig (Elt F) Λ₀ .tc) α} {R : α → sProp 𝕄} :
    iprop(records Q K V κ ∗ levAts L lv ∗ owing 5 c ∗ atPos ER (bar c) 0 ∅ 0 ∗ cred (tallyAt (bar c) () 5))
      ⊢ iprop(((owing 5 c ∗ semVal (bar c) 0 ∗ slots c) -∗ run c (f ⟨⟩) R) -∗ run c (.op (.semWait barS 5) f) R) := by
  unfold owing
  iintro ⟨#HR, #Hlev, ⟨%W, HO⟩, Hat, Hc⟩ Hk
  iapply (Rounds.wp_wait_rest_token 𝒱₀ ER (rd Q K V) (c : Thread nD τ) none (κ := κ (bar c))
      (wpE_semWait_eq 𝒱₀ (c : Thread nD τ) none Set.univ) (Set.mem_univ _) () (O := debt 5 c) (W := W) (R := 0) (m := 0) (T := ∅)
      ((Nat.zero_add 5).trans (expect_bar Q K V c).symm)) $$ [Hc HO Hat]
  · isplitr; · iapply (inv_bar Q K V κ c); iexact HR
    isplitl [Hc]; · iexact Hc
    isplitl [HO]; · iexact HO
    isplitr; · iapply (mayWait_at c (.reg barS) 5 (by decide)); iexact Hlev
    iexact Hat
  iintro ⟨HO, Hat, -, Hp⟩
  imod (Rounds.cell_close ER (rd Q K V) (Set.mem_univ (κ (bar c))) id (duties_later Q K V (bar c))) $$ [Hat] with Hz
  · isplitr; · iapply (inv_bar Q K V κ c); iexact HR
    iexact Hat
  iapply Hk
  isplitl [HO]; · iexists _; iexact HO
  isplitl [Hz]; · iexact Hz
  ihave Hp := (Entails.of_eq ((rest_bar Q K V c).trans (slots_eq c))) $$ Hp
  iexact Hp

/-! ## Transfers -/

/-- What starting transfer `i` takes besides its source: the right to raise its two counters, its own position, and the
    landing buffer. -/
def ready (i : Fin 11) (c : Dev nD) : sProp 𝕄 :=
  iprop((dutyTok ER (snd c i) 0 0 ∗ dutyTok ER (rcv (peer i c) i) 0 0) ∗ (atPos ER (snd c i) 0 ∅ 0 ∗ reached ER (snd c i) 0) ∗ slot i (peer i c))
/-- Transfer `i` is on its way. -/
def flying (i : Fin 11) (c : Dev nD) : sProp 𝕄 :=
  iprop(atPos ER (snd c i) 0 ∅ 0 ∗ cred (tallyAt (snd c i) () (credit i)))
/-- Transfer `i` is to arrive. -/
def awaited (i : Fin 11) (c : Dev nD) : sProp 𝕄 :=
  iprop(atPos ER (rcv c i) 0 ∅ 0 ∗ cred (tallyAt (rcv c i) () (credit i)))

theorem step_start {α : Type} (i : Fin 11) (c : Dev nD) {p : Dev nD} (hp : p = peer i c) {hsc : (dstM i).view.ref.isScScratch = false}
    {hsrc : (srcM i c).view.WordExact} {hdst : (dstM i).view.WordExact}
    {hsem : DmaTarget.Typed .vmem (.dma (rcvS i)) (.remote (p : Thread nD τ) (dstM i) (.dma (sndS i)) hsc)}
    {f : PUnit → Prog (TpuEff nD τ sig (Elt F) Λ₀ .tc) α} {R : α → sProp 𝕄} :
    iprop(records Q K V κ ∗ owing (5 + i.val) c ∗ ready i c ∗ back Q K V i c)
      ⊢ iprop(((owing (6 + i.val) c ∗ flying i c) -∗ run c (f ⟨⟩) R)
        -∗ run c (.op (.enqueueDma (srcM i c) (.remote (p : Thread nD τ) (dstM i) (.dma (sndS i)) hsc) (.dma (rcvS i)) hsrc hdst hsem) f) R) := by
  subst hp
  have hO : debt (5 + i.val) c = debt (6 + i.val) c + tallyAt (rcv (peer i c) i) () (credit i) := by fin_cases i <;> rfl
  unfold owing ready slot back
  iintro ⟨#HR, ⟨%W, HO⟩, ⟨⟨Ht, Ht'⟩, ⟨Hat, #Hr⟩, ⟨%X, Hd⟩, #Hr'⟩, Hs⟩ Hk
  ihave Hs := (owns_open c (srcM i c) (shareOf i) (sent Q K V i c)) $$ Hs
  icases Hs with ⟨%fs, %hfs, Hs⟩
  ihave Hd := (owns_open (peer i c) (dstM i) fullShare X) $$ Hd
  icases Hd with ⟨%fd, %hfd, Hd⟩
  iapply (Rounds.wp_send_pointsTo 𝒱₀ ER (rd Q K V) (c : Thread nD τ) none (c' := ((peer i c : Dev nD) : Thread nD τ)) (src := srcM i c) (dst := dstM i)
      (sS := .dma (sndS i)) (sem := .dma (rcvS i)) (q := shareOf i) (fs := fs) (fd := fd) (κ₁ := κ (snd c i)) (κ₂ := κ (rcv (peer i c) i))
      (r₁ := 0) (r₂ := 0) (d₁ := 0) (d₂ := 0)
      (by rw [duties_snd]; exact Finset.mem_singleton_self _) (by rw [duties_rcv]; exact Finset.mem_singleton_self _)
      () () (credit i) rfl (amount_snd Q K V c i 0) (amount_rcv Q K V (peer i c) i 0) (debt (6 + i.val) c) hO (W := W)
      (by rw [payload_snd]; unfold back; rw [← hfs, owns_read])
      (by
        rw [payload_rcv]; unfold landed; rw [Equiv.symm_apply_apply, ← hfs, ← owns_read]
        exact Entails.of_eq (congrArg _ (View.read_write_univ (v := (dstM i).view) _ _)))) $$ [Hs Hd HO Ht Ht']
  · isplitr; · iapply (inv_move Q K V κ (snd_mem c i)); iexact HR
    isplitr; · iapply (inv_move Q K V κ (rcv_mem (peer i c) i)); iexact HR
    isplitl [Hs]; · iexact Hs
    isplitl [Hd]; · iexact Hd
    isplitl [HO]; · iexact HO
    isplitl [Ht]; · iexact Ht
    isplitr; · iexact Hr
    isplitl [Ht']; · iexact Ht'
    iexact Hr'
  iintro ⟨Hc, HO⟩
  iapply Hk
  isplitl [HO]; · iexists W; iexact HO
  unfold flying
  isplitl [Hat]; · iexact Hat
  iexact Hc

/-- A wait for a transfer to arrive: the landing buffer, holding what was sent; the counter is back at zero. -/
theorem step_arrive {α : Type} (i : Fin 11) (n : ℕ) (h : ∀ l ∈ levels.drop n, level (.dma (rcvS i)) < l) (c : Dev nD)
    {s s' : Shape} {e e' : EltTy} {src : Memref sig .tc .vmem s' e'} {dst : Memref sig .tc .vmem s e} {hsrc : src.view.WordExact} {hdst : dst.view.WordExact}
    (hc : dst.view.dmaCredit = credit i)
    {f : PUnit → Prog (TpuEff nD τ sig (Elt F) Λ₀ .tc) α} {R : α → sProp 𝕄} :
    iprop(records Q K V κ ∗ levAts L lv ∗ owing n c ∗ awaited i c)
      ⊢ iprop(((owing n c ∗ semVal (rcv c i) 0 ∗ landed Q K V i c) -∗ run c (f ⟨⟩) R)
        -∗ run c (.op (.waitDma2 (rcvS i) src dst hsrc hdst) f) R) := by
  unfold owing awaited
  rw [← hc]
  iintro ⟨#HR, #Hlev, ⟨%W, HO⟩, Hat, Hc⟩ Hk
  iapply (Rounds.wp_wait_rest_token 𝒱₀ ER (rd Q K V) (c : Thread nD τ) none (κ := κ (rcv c i))
      (wpE_waitDma2_eq 𝒱₀ (c : Thread nD τ) none Set.univ) (Set.mem_univ _) () (O := debt n c) (W := W) (R := 0) (m := 0) (T := ∅)
      ((Nat.zero_add _).trans (hc.trans (expect_rcv Q K V c i).symm))) $$ [Hc HO Hat]
  · isplitr; · iapply (inv_move Q K V κ (rcv_mem c i)); iexact HR
    isplitl [Hc]; · iexact Hc
    isplitl [HO]; · iexact HO
    isplitr; · iapply (mayWait_at c _ n h); iexact Hlev
    iexact Hat
  iintro ⟨HO, Hat, -, Hp⟩
  imod (Rounds.cell_close ER (rd Q K V) (Set.mem_univ (κ (rcv c i))) id (duties_later Q K V (rcv c i))) $$ [Hat] with Hz
  · isplitr; · iapply (inv_move Q K V κ (rcv_mem c i)); iexact HR
    iexact Hat
  iapply Hk
  isplitl [HO]; · iexists _; iexact HO
  isplitl [Hz]; · iexact Hz
  ihave Hp := (Entails.of_eq (rest_rcv Q K V c i)) $$ Hp
  iexact Hp

/-- A wait for a transfer to have left: its source is back; the counter is back at zero. -/
theorem step_left {α : Type} (i : Fin 11) (n : ℕ) (h : ∀ l ∈ levels.drop n, level (.dma (sndS i)) < l) (c : Dev nD)
    {s s' : Shape} {e e' : EltTy} {src : Memref sig .tc .vmem s' e'} {dst : Memref sig .tc .vmem s e} {hsrc : src.view.WordExact} {hdst : dst.view.WordExact}
    (hc : dst.view.dmaCredit = credit i)
    {f : PUnit → Prog (TpuEff nD τ sig (Elt F) Λ₀ .tc) α} {R : α → sProp 𝕄} :
    iprop(records Q K V κ ∗ levAts L lv ∗ owing n c ∗ flying i c)
      ⊢ iprop(((owing n c ∗ semVal (snd c i) 0 ∗ back Q K V i c) -∗ run c (f ⟨⟩) R)
        -∗ run c (.op (.waitDma2 (sndS i) src dst hsrc hdst) f) R) := by
  unfold owing flying
  rw [← hc]
  iintro ⟨#HR, #Hlev, ⟨%W, HO⟩, Hat, Hc⟩ Hk
  iapply (Rounds.wp_wait_rest_token 𝒱₀ ER (rd Q K V) (c : Thread nD τ) none (κ := κ (snd c i))
      (wpE_waitDma2_eq 𝒱₀ (c : Thread nD τ) none Set.univ) (Set.mem_univ _) () (O := debt n c) (W := W) (R := 0) (m := 0) (T := ∅)
      ((Nat.zero_add _).trans (hc.trans (expect_snd Q K V c i).symm))) $$ [Hc HO Hat]
  · isplitr; · iapply (inv_move Q K V κ (snd_mem c i)); iexact HR
    isplitl [Hc]; · iexact Hc
    isplitl [HO]; · iexact HO
    isplitr; · iapply (mayWait_at c _ n h); iexact Hlev
    iexact Hat
  iintro ⟨HO, Hat, -, Hp⟩
  imod (Rounds.cell_close ER (rd Q K V) (Set.mem_univ (κ (snd c i))) id (duties_later Q K V (snd c i))) $$ [Hat] with Hz
  · isplitr; · iapply (inv_move Q K V κ (snd_mem c i)); iexact HR
    iexact Hat
  iapply Hk
  isplitl [HO]; · iexists _; iexact HO
  isplitl [Hz]; · iexact Hz
  ihave Hp := (Entails.of_eq (rest_snd Q K V c i)) $$ Hp
  iexact Hp

end Cert.KernelIdeal.Talk
-- ==== Proof.Rects.lean ====
/-
How the buffers divide into the rectangles the kernel reads, writes and sends.
-/
module

public import proofs.«01_k».proof.Proof.Moves

@[expose] public section

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

/-! ## The rectangles -/

theorem heads_disjoint : Disjoint head0.set head1.set := Rect.unit_disjoint 2 (.inl (by decide))
theorem heads_cover : head0.set ∪ head1.set = Finset.univ := by
  refine Finset.eq_univ_iff_forall.mpr fun i => Finset.mem_union.mpr ?_
  have h0 : (i 0).val < 2 := (i 0).isLt
  have h1 : (i 1).val < 256 := (i 1).isLt
  have h2 : (i 2).val < 128 := (i 2).isLt
  rcases Nat.lt_or_ge (i 2).val 64 with h | h
  · left; refine Rect.mem_set_unit.mpr fun a => ?_
    fin_cases a
    exacts [⟨Nat.zero_le _, h0⟩, ⟨Nat.zero_le _, h1⟩, ⟨Nat.zero_le _, h⟩]
  · right; refine Rect.mem_set_unit.mpr fun a => ?_
    fin_cases a
    exacts [⟨Nat.zero_le _, h0⟩, ⟨Nat.zero_le _, h1⟩, ⟨h, h2⟩]

theorem rows_disjoint : Disjoint upper.set lower.set := Rect.unit_disjoint 1 (.inl (by decide))
theorem rows_cover : upper.set ∪ lower.set = Finset.univ := by
  refine Finset.eq_univ_iff_forall.mpr fun i => Finset.mem_union.mpr ?_
  have h0 : (i 0).val < 2 := (i 0).isLt
  have h1 : (i 1).val < 256 := (i 1).isLt
  have h2 : (i 2).val < 128 := (i 2).isLt
  rcases Nat.lt_or_ge (i 1).val 128 with h | h
  · left; refine Rect.mem_set_unit.mpr fun a => ?_
    fin_cases a
    exacts [⟨Nat.zero_le _, h0⟩, ⟨Nat.zero_le _, h⟩, ⟨Nat.zero_le _, h2⟩]
  · right; refine Rect.mem_set_unit.mpr fun a => ?_
    fin_cases a
    exacts [⟨Nat.zero_le _, h0⟩, ⟨h, h1⟩, ⟨Nat.zero_le _, h2⟩]

theorem sums_disjoint : Disjoint sum0.set sum1.set := Rect.unit_disjoint 1 (.inl (by decide))
theorem sums_cover : sum0.set ∪ sum1.set = Finset.univ := by
  refine Finset.eq_univ_iff_forall.mpr fun i => Finset.mem_union.mpr ?_
  have h0 : (i 0).val < 2 := (i 0).isLt
  have h1 : (i 1).val < 2 := (i 1).isLt
  have h2 : (i 2).val < 256 := (i 2).isLt
  have h3 : (i 3).val < 1 := (i 3).isLt
  rcases Nat.lt_or_ge (i 1).val 1 with h | h
  · left; refine Rect.mem_set_unit.mpr fun a => ?_
    fin_cases a
    exacts [⟨Nat.zero_le _, h0⟩, ⟨Nat.zero_le _, h⟩, ⟨Nat.zero_le _, h2⟩, ⟨Nat.zero_le _, h3⟩]
  · right; refine Rect.mem_set_unit.mpr fun a => ?_
    fin_cases a
    exacts [⟨Nat.zero_le _, h0⟩, ⟨h, h1⟩, ⟨Nat.zero_le _, h2⟩, ⟨Nat.zero_le _, h3⟩]

theorem full3_emb (j : S2x256x128.Idx) : full3.emb j = j := funext fun a => Fin.ext (by
  rw [Rect.emb_apply]; fin_cases a <;> exact (Nat.zero_add _).trans (Nat.one_mul _))
theorem full4_emb (j : S2x2x256x1.Idx) : full4.emb j = j := funext fun a => Fin.ext (by
  rw [Rect.emb_apply]; fin_cases a <;> exact (Nat.zero_add _).trans (Nat.one_mul _))

theorem part_full3 {α : Type} (X : S2x256x128.Idx → α) : part full3 X = X := funext fun j => congrArg X (full3_emb j)
theorem part_full4 {α : Type} (X : S2x2x256x1.Idx → α) : part full4 X = X := funext fun j => congrArg X (full4_emb j)

theorem full3_set : full3.set = Finset.univ := by
  rw [← Rect.map_emb_univ]; exact Finset.eq_univ_iff_forall.mpr fun i => Finset.mem_map.mpr ⟨i, Finset.mem_univ _, full3_emb i⟩
theorem full4_set : full4.set = Finset.univ := by
  rw [← Rect.map_emb_univ]; exact Finset.eq_univ_iff_forall.mpr fun i => Finset.mem_map.mpr ⟨i, Finset.mem_univ _, full4_emb i⟩

/-- The device of device `c`'s square whose columns the `k`-th of the four writes of the result goes to. -/
def square (c : Dev nD) : Fin 4 → Dev nD
  | 0 => c
  | 1 => across c
  | 2 => beside c
  | 3 => corner c

/-- Where the `k`-th write of the result goes. -/
abbrev pairO1 (c : Dev nD) : Rect S2x256x512 := Rect.unit (s := S2x256x512) (k0_off4 c 2#32) S2x256x128.size (k0_off4_inb c 1)
abbrev pairO2 (c : Dev nD) : Rect S2x256x512 := Rect.unit (s := S2x256x512) (k0_off4 c 1#32) S2x256x128.size (k0_off4_inb c 0)
abbrev pairO3 (c : Dev nD) : Rect S2x256x512 := Rect.unit (s := S2x256x512) (k0_off4 c 3#32) S2x256x128.size (k0_off4_inb c 2)

theorem column_inb (p : Fin 4) : ∀ a, (![0, 0, 128 * p.val] : Fin 3 → ℕ) a + S2x256x128.size a ≤ S2x256x512.size a := by
  revert p; decide
/-- The columns of head pair `p`. -/
abbrev column (p : Fin 4) : Rect S2x256x512 := Rect.unit (s := S2x256x512) ![0, 0, 128 * p.val] S2x256x128.size (column_inb p)

theorem pairO_eq (c : Dev nD) : pairO c = column (quarter (square c 0)) := Rect.unit_congr (off3_eq c) _ _
theorem pairO1_eq (c : Dev nD) : pairO1 c = column (quarter (square c 1)) := Rect.unit_congr (off4_across c) _ _
theorem pairO2_eq (c : Dev nD) : pairO2 c = column (quarter (square c 2)) := Rect.unit_congr (off4_beside c) _ _
theorem pairO3_eq (c : Dev nD) : pairO3 c = column (quarter (square c 3)) := Rect.unit_congr (off4_corner c) _ _

theorem square_inj (c : Dev nD) : ∀ k k' : Fin 4, k ≠ k' → quarter (square c k) ≠ quarter (square c k') := by revert c; decide
theorem square_all (c : Dev nD) (p : Fin 4) : ∃ k, quarter (square c k) = p := by revert c p; decide

theorem columns_disjoint (p p' : Fin 4) (h : p ≠ p') : Disjoint (column p).set (column p').set :=
  Rect.unit_disjoint 2 (by show 128 * p.val + 128 ≤ 128 * p'.val ∨ 128 * p'.val + 128 ≤ 128 * p.val; have := Fin.val_ne_of_ne h; omega)

theorem column_mem (i : S2x256x512.Idx) (p : Fin 4) (hp : (i 2).val / 128 = p.val) : i ∈ (column p).set := by
  have h0 : (i 0).val < 2 := (i 0).isLt
  have h1 : (i 1).val < 256 := (i 1).isLt
  refine Rect.mem_set_unit.mpr fun a => ?_
  fin_cases a
  · exact ⟨Nat.zero_le _, h0⟩
  · exact ⟨Nat.zero_le _, h1⟩
  · exact (show 128 * p.val ≤ (i 2).val ∧ (i 2).val < 128 * p.val + 128 by omega)

theorem columns_cover (c : Dev nD) : (Finset.univ : Finset (Fin 4)).biUnion (fun k => (column (quarter (square c k))).set) = Finset.univ := by
  refine Finset.eq_univ_iff_forall.mpr fun i => Finset.mem_biUnion.mpr ?_
  have h2 : (i 2).val < 512 := (i 2).isLt
  obtain ⟨k, hk⟩ := square_all c ⟨(i 2).val / 128, by omega⟩
  exact ⟨k, Finset.mem_univ _, column_mem i _ (by rw [hk])⟩

/-! ## Owning them -/

variable {F : FTy → Type} [FloatOps F]

local notation "𝕄" => MT nD τ sig Unit (Elt F) ℕ UU ℕ

/-- A memref owned outright. -/
abbrev own (c : Dev nD) {s : Shape} {e : EltTy} (m : Memref sig .tc .vmem s e) (X : s.Idx → Elt F e) : sProp 𝕄 := ownsTc c m fullShare X

abbrev aM0 : Memref sig .tc .vmem S2x256x64 .f32 := aM.slice head0 (fun _ => rfl)
abbrev aM1 : Memref sig .tc .vmem S2x256x64 .f32 := aM.slice head1 (fun _ => rfl)
abbrev wM0 : Memref sig .tc .vmem S2x1x256x1 .f32 := wM.slice sum0 (fun _ => rfl)
abbrev wM1 : Memref sig .tc .vmem S2x1x256x1 .f32 := wM.slice sum1 (fun _ => rfl)

variable [∀ e, Nonempty (Elt F e)]

section Full

variable (c : Dev nD) {e : EltTy} (q : PosShare TreeShare)

/-- A slice that is the whole of a memref. -/
theorem owns_all {s : Shape} (m : Memref sig .tc .vmem s e) (r : Rect s) (hr : ∀ a, r.stride a = 1) (hs : r.set = Finset.univ)
    (X : s.Idx → Elt F e) : (ownsTc c (m.slice r hr) q (part r X) : sProp 𝕄) = ownsTc c m q X := by
  have h := owns_rects (c : Thread nD τ) m q (T := Unit) (fun _ => r) (fun _ => hr) (fun a b h => absurd rfl h)
    (by rw [Finset.univ_unique, Finset.singleton_biUnion]; exact hs) (Name := ℕ) (U := UU) (Ix := Unit) (Lvl := ℕ) (Val := Elt F) X
  have h' := owns_of_rects (c : Thread nD τ) m q (T := Unit) (fun _ => r) (fun _ => hr) (fun a b h => absurd rfl h)
    (by rw [Finset.univ_unique, Finset.singleton_biUnion]; exact hs) (Name := ℕ) (U := UU) (Ix := Unit) (Lvl := ℕ) (Val := Elt F) X
  rw [Finset.univ_unique, bigSep_singleton] at h h'
  exact BI.equiv_iff.mp ⟨h', h⟩

theorem owns_full3 (m : Memref sig .tc .vmem S2x256x128 e) (hr : ∀ a, full3.stride a = 1) (X : S2x256x128.Idx → Elt F e) :
    (ownsTc c (m.slice full3 hr) q X : sProp 𝕄) = ownsTc c m q X := by
  rw [← owns_all c q m full3 hr full3_set X, part_full3]
theorem owns_full4 (m : Memref sig .tc .vmem S2x2x256x1 e) (hr : ∀ a, full4.stride a = 1) (X : S2x2x256x1.Idx → Elt F e) :
    (ownsTc c (m.slice full4 hr) q X : sProp 𝕄) = ownsTc c m q X := by
  rw [← owns_all c q m full4 hr full4_set X, part_full4]

end Full

section Divide

variable (c : Dev nD) {e : EltTy} (m : Memref sig .tc .vmem S2x256x128 e) (X : S2x256x128.Idx → Elt F e)

/-- A received block divides into a half share to read, and the two row ranges of the other half, one of them to send. -/
theorem owns_rows : (own c m X : sProp 𝕄)
    ⊢ iprop(ownsTc c m fullShare.left X ∗ ownsTc c (m.slice upper (fun _ => rfl)) fullShare.right (part upper X)
      ∗ ownsTc c (m.slice lower (fun _ => rfl)) fullShare.right (part lower X)) := by
  iintro H
  ihave H := (owns_halves c m fullShare X) $$ H
  icases H with ⟨H, H'⟩
  ihave H' := (owns_split c m fullShare.right upper lower (fun _ => rfl) (fun _ => rfl) rows_disjoint rows_cover X) $$ H'
  isplitl [H]; · iexact H
  iexact H'

theorem owns_rows_join :
    iprop(ownsTc c m fullShare.left X ∗ ownsTc c (m.slice upper (fun _ => rfl)) fullShare.right (part upper X)
      ∗ ownsTc c (m.slice lower (fun _ => rfl)) fullShare.right (part lower X)) ⊢ (own c m X : sProp 𝕄) := by
  iintro ⟨H, H'⟩
  ihave H' := (owns_glue c m fullShare.right upper lower (fun _ => rfl) (fun _ => rfl) rows_disjoint rows_cover X) $$ H'
  iapply (owns_join c m fullShare X)
  isplitl [H]; · iexact H
  iexact H'

/-- Three shares of one memref. -/
theorem owns_three {s : Shape} (m : Memref sig .tc .vmem s e) (X : s.Idx → Elt F e) : (own c m X : sProp 𝕄)
    ⊢ iprop(ownsTc c m fullShare.left X ∗ ownsTc c m fullShare.right.left X ∗ ownsTc c m fullShare.right.right X) := by
  iintro H
  ihave H := (owns_halves c m fullShare X) $$ H
  icases H with ⟨H, H'⟩
  ihave H' := (owns_halves c m fullShare.right X) $$ H'
  isplitl [H]; · iexact H
  iexact H'

theorem owns_three_join {s : Shape} (m : Memref sig .tc .vmem s e) (X : s.Idx → Elt F e) :
    iprop(ownsTc c m fullShare.left X ∗ ownsTc c m fullShare.right.left X ∗ ownsTc c m fullShare.right.right X) ⊢ (own c m X : sProp 𝕄) := by
  iintro ⟨H, H'⟩
  ihave H' := (owns_join c m fullShare.right X) $$ H'
  iapply (owns_join c m fullShare X)
  isplitl [H]; · iexact H
  iexact H'

end Divide

/-- Device `c`'s head pair of a staged block of keys taken out of it, to put back; and of values. -/
theorem owns_pairK (c : Dev nD) (X : S4x2x256x128.Idx → F .bf16) : (own c kM X : sProp 𝕄)
    ⊢ iprop(own c (kqM c) ((kqM c).view.read (Elt F) X) ∗ (own c (kqM c) ((kqM c).view.read (Elt F) X) -∗ own c kM X)) := by
  have hX : (own c (kqM c) ((kqM c).view.read (Elt F) X) : sProp 𝕄) = _ := owns_read c (kqM c) fullShare X
  have h : (kqM c).view.set ⊆ (Finset.univ : Finset cc0_stg1_0.ty.Idx) := Finset.subset_univ _
  iintro H
  ihave H := (Entails.of_eq (owns_whole (c : Thread nD τ) cc0_stg1_0 fullShare X)) $$ H
  ihave H := (pointsTo_split_subset h).1 $$ H
  icases H with ⟨H, H'⟩
  rw [hX]
  isplitl [H]; · iexact H
  iintro H
  iapply (Entails.of_eq (owns_whole (c : Thread nD τ) cc0_stg1_0 fullShare X).symm)
  iapply (pointsTo_split_subset h).2
  isplitl [H]; · iexact H
  iexact H'

theorem owns_pairV (c : Dev nD) (X : S4x2x256x128.Idx → F .bf16) : (own c vM X : sProp 𝕄)
    ⊢ iprop(own c (vqM c) ((vqM c).view.read (Elt F) X) ∗ (own c (vqM c) ((vqM c).view.read (Elt F) X) -∗ own c vM X)) := by
  have hX : (own c (vqM c) ((vqM c).view.read (Elt F) X) : sProp 𝕄) = _ := owns_read c (vqM c) fullShare X
  have h : (vqM c).view.set ⊆ (Finset.univ : Finset cc0_stg2_0.ty.Idx) := Finset.subset_univ _
  iintro H
  ihave H := (Entails.of_eq (owns_whole (c : Thread nD τ) cc0_stg2_0 fullShare X)) $$ H
  ihave H := (pointsTo_split_subset h).1 $$ H
  icases H with ⟨H, H'⟩
  rw [hX]
  isplitl [H]; · iexact H
  iintro H
  iapply (Entails.of_eq (owns_whole (c : Thread nD τ) cc0_stg2_0 fullShare X).symm)
  iapply (pointsTo_split_subset h).2
  isplitl [H]; · iexact H
  iexact H'

/-- Which of the four writes fills the columns of head pair `p`. -/
def pick (c : Dev nD) (p : Fin 4) : Fin 4 :=
  if quarter (square c 0) = p then 0 else if quarter (square c 1) = p then 1 else if quarter (square c 2) = p then 2 else 3

theorem pick_square (c : Dev nD) (k : Fin 4) : pick c (quarter (square c k)) = k := by revert c k; decide

/-- An index of the result within its head pair's columns. -/
def within (i : S2x256x512.Idx) : S2x256x128.Idx := fun a =>
  match a with
  | 0 => i 0
  | 1 => i 1
  | 2 => (⟨(i 2).val % 128, Nat.mod_lt _ (by decide)⟩ : Fin 128)

/-- Its head pair. -/
def pairOf (i : S2x256x512.Idx) : Fin 4 := ⟨(i 2).val / 128, by have h : (i 2).val < 512 := (i 2).isLt; omega⟩

/-- The result as the four writes leave it. -/
def joined (c : Dev nD) (Y : Fin 4 → S2x256x128.Idx → F .f32) : S2x256x512.Idx → F .f32 := fun i => Y (pick c (pairOf i)) (within i)

theorem part_joined (c : Dev nD) (Y : Fin 4 → S2x256x128.Idx → F .f32) (k : Fin 4) : part (column (quarter (square c k))) (joined c Y) = Y k := by
  funext j
  have h2 : (j 2).val < 128 := (j 2).isLt
  have e2 : ((column (quarter (square c k))).emb j 2).val = 128 * (quarter (square c k)).val + (j 2).val :=
    (Rect.emb_apply _ _ _).trans (congrArg _ (Nat.one_mul _))
  have e0 : ((column (quarter (square c k))).emb j 0).val = (j 0).val :=
    (Rect.emb_apply _ _ _).trans ((Nat.zero_add _).trans (Nat.one_mul _))
  have e1 : ((column (quarter (square c k))).emb j 1).val = (j 1).val :=
    (Rect.emb_apply _ _ _).trans ((Nat.zero_add _).trans (Nat.one_mul _))
  have hp : pairOf ((column (quarter (square c k))).emb j) = quarter (square c k) :=
    Fin.ext (by show ((column (quarter (square c k))).emb j 2).val / 128 = _; rw [e2]; omega)
  have hw : within ((column (quarter (square c k))).emb j) = j := by
    funext a
    fin_cases a
    · exact Fin.ext e0
    · exact Fin.ext e1
    · exact Fin.ext (by show ((column (quarter (square c k))).emb j 2).val % 128 = (j 2).val; rw [e2]; omega)
  show joined c Y _ = _
  unfold joined
  rw [hp, hw, pick_square]

/-- The four rectangles, in the order of the writes. -/
def outR (c : Dev nD) : Fin 4 → Rect S2x256x512
  | 0 => pairO c
  | 1 => pairO1 c
  | 2 => pairO2 c
  | 3 => pairO3 c

theorem outR_eq (c : Dev nD) (k : Fin 4) : outR c k = column (quarter (square c k)) := by
  fin_cases k
  exacts [pairO_eq c, pairO1_eq c, pairO2_eq c, pairO3_eq c]

theorem part_at (c : Dev nD) (Y : Fin 4 → S2x256x128.Idx → F .f32) (k : Fin 4) {off : Fin 3 → ℕ} (h : off = ![0, 0, 128 * (quarter (square c k)).val])
    (inb : ∀ a, off a + S2x256x128.size a ≤ S2x256x512.size a) :
    part (Rect.unit (s := S2x256x512) off S2x256x128.size inb) (joined c Y) = Y k := by
  subst h; exact part_joined c Y k

theorem outR_stride (c : Dev nD) (k : Fin 4) (a : Fin 3) : (outR c k).stride a = 1 := by rw [outR_eq]; rfl
theorem outR_disjoint (c : Dev nD) (k k' : Fin 4) (h : k ≠ k') : Disjoint (outR c k).set (outR c k').set := by
  rw [outR_eq, outR_eq]; exact columns_disjoint _ _ (square_inj c k k' h)
theorem outR_cover (c : Dev nD) : (Finset.univ : Finset (Fin 4)).biUnion (fun k => (outR c k).set) = Finset.univ :=
  (Finset.biUnion_congr rfl fun k _ => by rw [outR_eq]).trans (columns_cover c)

/-- The staged result divides into the four writes' columns, and they join to it. -/
theorem owns_columns (c : Dev nD) (X : S2x256x512.Idx → F .f32) : (own c oM X : sProp 𝕄)
    ⊢ iprop(own c (oM.slice (pairO c) (fun _ => rfl)) (part (pairO c) X) ∗ own c (oM.slice (pairO1 c) (fun _ => rfl)) (part (pairO1 c) X)
      ∗ own c (oM.slice (pairO2 c) (fun _ => rfl)) (part (pairO2 c) X) ∗ own c (oM.slice (pairO3 c) (fun _ => rfl)) (part (pairO3 c) X)) := by
  have h := owns_rects (c : Thread nD τ) oM fullShare (T := Fin 4) (outR c) (outR_stride c) (outR_disjoint c) (outR_cover c)
    (Name := ℕ) (U := UU) (Ix := Unit) (Lvl := ℕ) (Val := Elt F) X
  refine h.trans ?_
  rw [bigSep_univ_eq_bigSepL ([0, 1, 2, 3] : List (Fin 4)) (by decide) (by decide)]
  exact .rfl

theorem owns_columns_join (c : Dev nD) (Y : Fin 4 → S2x256x128.Idx → F .f32) :
    iprop(own c (oM.slice (pairO c) (fun _ => rfl)) (Y 0) ∗ own c (oM.slice (pairO1 c) (fun _ => rfl)) (Y 1)
      ∗ own c (oM.slice (pairO2 c) (fun _ => rfl)) (Y 2) ∗ own c (oM.slice (pairO3 c) (fun _ => rfl)) (Y 3))
      ⊢ (own c oM (joined c Y) : sProp 𝕄) := by
  rw [← part_at c Y 0 (off3_eq c) (k0_off3_inb c), ← part_at c Y 1 (off4_across c) (k0_off4_inb c 1),
    ← part_at c Y 2 (off4_beside c) (k0_off4_inb c 0), ← part_at c Y 3 (off4_corner c) (k0_off4_inb c 2)]
  have h := owns_of_rects (c : Thread nD τ) oM fullShare (T := Fin 4) (outR c) (outR_stride c) (outR_disjoint c) (outR_cover c)
    (Name := ℕ) (U := UU) (Ix := Unit) (Lvl := ℕ) (Val := Elt F) (joined c Y)
  rw [bigSep_univ_eq_bigSepL ([0, 1, 2, 3] : List (Fin 4)) (by decide) (by decide)] at h
  exact h

end Cert.KernelIdeal.Talk
-- ==== Proof.Compute.lean ====
/-
The stretches of the kernel, one after another: each says what it takes, what it leaves and what it hands on. Most fold
one block of keys and values into the sums; between them transfers start and arrive.
-/
module

public import proofs.«01_k».proof.Proof.Rects

@[expose] public section

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig Unit (Elt F) ℕ UU ℕ

/-- A part of the kernel at its buffers. -/
abbrev on {β : Type 1} (f : ∀ (a0 : Memref sig .tc .vmem S4x2x256x128 .bf16) (_ : a0.IsWhole) (a1 : Memref sig .tc .vmem S4x2x256x128 .bf16) (_ : a1.IsWhole)
    (a2 : Memref sig .tc .vmem S4x2x256x128 .bf16) (_ : a2.IsWhole) (a3 : Memref sig .tc .vmem S2x256x512 .f32) (_ : a3.IsWhole)
    (a4 : Memref sig .tc .vmem S2x256x128 .bf16) (_ : a4.IsWhole) (a5 : Memref sig .tc .vmem S2x256x128 .bf16) (_ : a5.IsWhole)
    (a6 : Memref sig .tc .vmem S2x256x128 .bf16) (_ : a6.IsWhole) (a7 : Memref sig .tc .vmem S2x256x128 .bf16) (_ : a7.IsWhole)
    (a8 : Memref sig .tc .vmem S2x256x128 .bf16) (_ : a8.IsWhole) (a9 : Memref sig .tc .vmem S2x256x128 .bf16) (_ : a9.IsWhole)
    (a10 : Memref sig .tc .vmem S2x256x128 .bf16) (_ : a10.IsWhole) (a11 : Memref sig .tc .vmem S2x256x128 .bf16) (_ : a11.IsWhole)
    (a12 : Memref sig .tc .vmem S2x256x128 .bf16) (_ : a12.IsWhole) (a13 : Memref sig .tc .vmem S2x256x128 .bf16) (_ : a13.IsWhole)
    (a14 : Memref sig .tc .vmem S2x256x128 .bf16) (_ : a14.IsWhole) (a15 : Memref sig .tc .vmem S2x256x128 .f32) (_ : a15.IsWhole)
    (a16 : Memref sig .tc .vmem S2x2x256x1 .f32) (_ : a16.IsWhole) (_ _ : DmaSems sig S11), β) : β :=
  f qM (Memref.isWhole_whole _) kM (Memref.isWhole_whole _) vM (Memref.isWhole_whole _) oM (Memref.isWhole_whole _) lkM (Memref.isWhole_whole _)
    lvM (Memref.isWhole_whole _) rkM (Memref.isWhole_whole _) rvM (Memref.isWhole_whole _) fkM (Memref.isWhole_whole _) fvM (Memref.isWhole_whole _)
    bM (Memref.isWhole_whole _) sM (Memref.isWhole_whole _) xM (Memref.isWhole_whole _) zM (Memref.isWhole_whole _) dM (Memref.isWhole_whole _)
    aM (Memref.isWhole_whole _) wM (Memref.isWhole_whole _) cc0_scratch13 cc0_scratch14

theorem run_ret (c : Dev nD) {α : Type} (v : α) {R : α → sProp 𝕄} : R v ⊢ run c (.ret v) R := by
  unfold run; rw [wp_ret]; iintro H; imodintro; iexact H

/-- Read a slice twice, then write it from what the first reading gave. -/
theorem step_update {α : Type} (c : Dev nD) {s : Shape} {e : EltTy} {m : Memref sig .tc .vmem s e} {r : Rect s} {hr : ∀ a, r.stride a = 1}
    {X : r.shape.Idx → Elt F e} {g : (r.shape.Idx → Elt F e) → r.shape.Idx → Elt F e} {hl hl' : m.view.LoadsAt r}
    {hx : (m.access r).Stores Finset.univ} {hm : (Finset.univ : Finset r.shape.Idx) = Finset.univ ∨ ∀ a, r.stride a = 1}
    {k : PUnit → Prog (TpuEff nD τ sig (Elt F) Λ₀ .tc) α} {R : α → sProp 𝕄} :
    (own c (m.slice r hr) X : sProp 𝕄) ⊢ iprop((own c (m.slice r hr) (g X) -∗ run c (k ⟨⟩) R)
      -∗ run c (.op (.load m r.toLoadRect hl) fun v => .op (.load m r.toLoadRect hl') fun _ => .op (.store m r (g v) Finset.univ hx hm) k) R) := by
  iintro H Hk
  iapply (step_load_slice c) $$ H
  iintro H
  iapply (step_load_slice c) $$ H
  iintro H
  iapply (step_store c) $$ H
  iexact Hk

/-- What a wait takes off a transfer's counter depends on the shape alone. -/
theorem credit_tile {s : Shape} {e : EltTy} (v : View sig .tc .vmem s e) : v.dmaCredit = RefSig.tileCredit s e := rfl
theorem credit_shape (i : Fin 11) {s : Shape} (hs : s = shp i) (v : View sig .tc .vmem s .bf16) : v.dmaCredit = credit i := by
  subst hs; exact (credit_tile v).trans (credit_tile (dstM i).view).symm

/-- The far keys and values, once both of their halves have arrived. -/
theorem far_keys (Q K V : Dev nD → S4x2x256x128.Idx → F .bf16) (c : Dev nD) :
    iprop(landed Q K V 4 c ∗ landed Q K V 6 c) ⊢ (own c fkM (ownK K (left (left c))) : sProp 𝕄) := by
  have h : (landed Q K V 6 c : sProp 𝕄) = own c (fkM.slice lower (fun _ => rfl)) (part lower (ownK K (left (left c)))) := by
    rw [left_left]; rfl
  rw [h]
  exact owns_glue c fkM fullShare upper lower (fun _ => rfl) (fun _ => rfl) rows_disjoint rows_cover (ownK K (left (left c)))
theorem far_values (Q K V : Dev nD → S4x2x256x128.Idx → F .bf16) (c : Dev nD) :
    iprop(landed Q K V 5 c ∗ landed Q K V 7 c) ⊢ (own c fvM (ownV V (left (left c))) : sProp 𝕄) := by
  have h : (landed Q K V 7 c : sProp 𝕄) = own c (fvM.slice lower (fun _ => rfl)) (part lower (ownV V (left (left c)))) := by
    rw [left_left]; rfl
  rw [h]
  exact owns_glue c fvM fullShare upper lower (fun _ => rfl) (fun _ => rfl) rows_disjoint rows_cover (ownV V (left (left c)))

/-- The device's own values and, to the left, its keys and values on their way; the query read. -/
theorem part4 (Q K V : Dev nD → S4x2x256x128.Idx → F .bf16) (κ : GSem nD τ sig → ℕ) (c : Dev nD) (v2 v8 v20 v45 : BitVec 32) {X : S4x2x256x128.Idx → F .bf16} {R : FVec F S2x256x128 .bf16 → sProp 𝕄} :
    iprop(records Q K V κ ∗ owing 6 c ∗ (ready 1 c ∗ back Q K V 1 c) ∗ (ready 2 c ∗ back Q K V 2 c) ∗ (ready 3 c ∗ back Q K V 3 c) ∗ own c qM X)
      ⊢ iprop(((owing 9 c ∗ flying 1 c ∗ flying 2 c ∗ flying 3 c ∗ own c qM X) -∗ R (k0_pay1 (part (pairQ c) X))) -∗ run c (on (k0_part4 (F := F)) c v2 v8 v20 v45) R) := by
  iintro ⟨#HR, HO, ⟨H1, B1⟩, ⟨H2, B2⟩, ⟨H3, B3⟩, HX⟩ Hk
  simp only [k0_part4_eq_skeleton]
  unfold k0_part4_skel
  simp only [on, Prog.lift, Prog.bind_op, Prog.bind_ret, Prog.pure_eq_ret, Prog.bind_assoc]
  iapply (step_start Q K V κ 1 c (dev7_eq c)) $$ [HO H1 B1]
  · iframe HR; isplitl [HO]; · iexact HO
    isplitl [H1]; · iexact H1
    iexact B1
  iintro ⟨HO, F1⟩
  iapply (step_start Q K V κ 2 c (dev8_eq c)) $$ [HO H2 B2]
  · iframe HR; isplitl [HO]; · iexact HO
    isplitl [H2]; · iexact H2
    iexact B2
  iintro ⟨HO, F2⟩
  iapply (step_start Q K V κ 3 c (dev9_eq c)) $$ [HO H3 B3]
  · iframe HR; isplitl [HO]; · iexact HO
    isplitl [H3]; · iexact H3
    iexact B3
  iintro ⟨HO, F3⟩
  iapply (step_load c) $$ HX; iintro HX
  iapply (run_ret c)
  iapply Hk
  iframe

/-- The query kept, the sums cleared, and the own keys of the first head weighed in. -/
theorem part5 (c : Dev nD) {q : PosShare TreeShare} {Y : S2x256x128.Idx → F .bf16} (b : FVec F S2x256x128 .bf16) {B' : S2x256x128.Idx → F .bf16} {a' : S2x256x128.Idx → F .f32} {w' : S2x2x256x1.Idx → F .f32} {R : FVec F S2x256x256 .f32 → sProp 𝕄} :
    iprop(own c bM B' ∗ own c aM a' ∗ own c wM w' ∗ ownsTc c (kqM c) q Y)
      ⊢ iprop(((own c bM (k0_pay2 b) ∗ (own c aM0 (part head0 (k0_pay3 (F := F))) ∗ own c aM1 (part head1 (k0_pay3 (F := F))))
          ∗ (own c wM0 (k0_pay6 (part head0 (k0_pay2 b)) (part head0 Y) (part sum0 (k0_pay4 (F := F)))) ∗ own c wM1 (part sum1 (k0_pay4 (F := F)))) ∗ ownsTc c (kqM c) q Y) -∗ R (k0_pay5 (part head0 (k0_pay2 b)) (part head0 Y))) -∗ run c (on (k0_part5 (F := F)) c b) R) := by
  iintro ⟨HB, Ha, Hw, HY⟩ Hk
  simp only [k0_part5_eq_skeleton]
  unfold k0_part5_skel
  simp only [on, Prog.lift, Prog.bind_op, Prog.bind_ret, Prog.pure_eq_ret, Prog.bind_assoc]
  iapply (step_load c) $$ HB; iintro HB
  ihave HB := (Entails.of_eq (owns_full3 c fullShare bM (fun _ => rfl) B').symm) $$ HB
  iapply (step_store c) $$ HB; iintro HB
  ihave HB := (Entails.of_eq (owns_full3 c fullShare bM (fun _ => rfl) (k0_pay2 b))) $$ HB
  iapply (step_load c) $$ Ha; iintro Ha
  ihave Ha := (Entails.of_eq (owns_full3 c fullShare aM (fun _ => rfl) a').symm) $$ Ha
  iapply (step_store c) $$ Ha; iintro Ha
  ihave Ha := (Entails.of_eq (owns_full3 c fullShare aM (fun _ => rfl) (k0_pay3 (F := F)))) $$ Ha
  ihave Ha := (owns_split c aM fullShare head0 head1 (fun _ => rfl) (fun _ => rfl) heads_disjoint heads_cover _) $$ Ha
  iapply (step_load c) $$ Hw; iintro Hw
  ihave Hw := (Entails.of_eq (owns_full4 c fullShare wM (fun _ => rfl) w').symm) $$ Hw
  iapply (step_store c) $$ Hw; iintro Hw
  ihave Hw := (Entails.of_eq (owns_full4 c fullShare wM (fun _ => rfl) (k0_pay4 (F := F)))) $$ Hw
  ihave Hw := (owns_split c wM fullShare sum0 sum1 (fun _ => rfl) (fun _ => rfl) sums_disjoint sums_cover _) $$ Hw
  icases Hw with ⟨Hw, Hw'⟩
  iapply (step_load c) $$ HB; iintro HB
  iapply (step_load c) $$ HY; iintro HY
  iapply (step_update c) $$ Hw; iintro Hw
  iapply (run_ret c)
  iapply Hk
  iframe

/-- The own values of the first head, and the own keys of the second, weighed in. -/
theorem part6 (c : Dev nD) {q : PosShare TreeShare} {B Y Z : S2x256x128.Idx → F .bf16} (e : FVec F S2x256x256 .f32) {a : S2x256x64.Idx → F .f32} {w : S2x1x256x1.Idx → F .f32} {R : FVec F S2x256x256 .f32 → sProp 𝕄} :
    iprop(own c bM B ∗ ownsTc c (kqM c) q Y ∗ ownsTc c (vqM c) q Z ∗ own c aM0 a ∗ own c wM1 w)
      ⊢ iprop(((own c bM B ∗ ownsTc c (kqM c) q Y ∗ ownsTc c (vqM c) q Z ∗ own c aM0 (k0_pay7 e (part head0 Z) a) ∗ own c wM1 (k0_pay9 (part head1 B) (part head1 Y) w)) -∗ R (k0_pay8 (part head1 B) (part head1 Y))) -∗ run c (on (k0_part6 (F := F)) c e) R) := by
  iintro ⟨HB, HY, HZ, Ha, Hw⟩ Hk
  simp only [k0_part6_eq_skeleton]
  unfold k0_part6_skel
  simp only [on, Prog.lift, Prog.bind_op, Prog.bind_ret, Prog.pure_eq_ret, Prog.bind_assoc]
  iapply (step_load c) $$ HZ; iintro HZ
  iapply (step_update c) $$ Ha; iintro Ha
  iapply (step_load c) $$ HB; iintro HB
  iapply (step_load c) $$ HY; iintro HY
  iapply (step_update c) $$ Hw; iintro Hw
  iapply (run_ret c)
  iapply Hk
  iframe

/-- The own values of the second head weighed in; the left neighbour's keys arrive. -/
theorem part7 (Q K V : Dev nD → S4x2x256x128.Idx → F .bf16) (κ : GSem nD τ sig → ℕ) (c : Dev nD) {q : PosShare TreeShare} {Z : S2x256x128.Idx → F .bf16} (v2 v8 v31 : BitVec 32) (e : FVec F S2x256x256 .f32) {a : S2x256x64.Idx → F .f32} {R : PUnit → sProp 𝕄} :
    iprop(records Q K V κ ∗ levAts L lv ∗ owing 9 c ∗ awaited 0 c ∗ ownsTc c (vqM c) q Z ∗ own c aM1 a)
      ⊢ iprop(((owing 9 c ∗ (semVal (rcv c 0) 0 ∗ landed Q K V 0 c) ∗ ownsTc c (vqM c) q Z ∗ own c aM1 (k0_pay10 e (part head1 Z) a)) -∗ R ⟨⟩) -∗ run c (on (k0_part7 (F := F)) c v2 v8 v31 e) R) := by
  iintro ⟨#HR, #Hlev, HO, Hc, HZ, Ha⟩ Hk
  simp only [k0_part7_eq_skeleton]
  unfold k0_part7_skel
  simp only [on, Prog.lift, Prog.bind_op, Prog.bind_ret, Prog.pure_eq_ret, Prog.bind_assoc]
  iapply (step_load c) $$ HZ; iintro HZ
  iapply (step_update c) $$ Ha; iintro Ha
  iapply (step_arrive Q K V κ 0 9 (by decide) c (credit_shape 0 rfl _)) $$ [HO Hc]
  · iframe HR Hlev; isplitl [HO]; · iexact HO
    iexact Hc
  iintro ⟨HO, Hz, Hl⟩
  iapply (run_ret c)
  iapply Hk
  iframe

/-- The left neighbour's keys pass on to the right; its values arrive and pass on too. -/
theorem part8 (Q K V : Dev nD → S4x2x256x128.Idx → F .bf16) (κ : GSem nD τ sig → ℕ) (c : Dev nD) (v2 v8 v31 : BitVec 32) {B : S2x256x128.Idx → F .bf16} {R : Vec F S2x256x64 .bf16 → sProp 𝕄} :
    iprop(records Q K V κ ∗ levAts L lv ∗ owing 9 c ∗ (ready 4 c ∗ back Q K V 4 c) ∗ awaited 1 c ∗ ready 5 c ∗ own c bM B)
      ⊢ iprop(((owing 11 c ∗ flying 4 c ∗ semVal (rcv c 1) 0 ∗ (ownsTc c lvM fullShare.left (ownV V (left c))
          ∗ ownsTc c (lvM.slice lower (fun _ => rfl)) fullShare.right (part lower (ownV V (left c)))) ∗ flying 5 c ∗ own c bM B) -∗ R (part head0 B)) -∗ run c (on (k0_part8 (F := F)) c v2 v8 v31) R) := by
  iintro ⟨#HR, #Hlev, HO, ⟨H4, B4⟩, Hc, H5, HB⟩ Hk
  simp only [k0_part8_eq_skeleton]
  unfold k0_part8_skel
  simp only [on, Prog.lift, Prog.bind_op, Prog.bind_ret, Prog.pure_eq_ret, Prog.bind_assoc]
  iapply (step_start Q K V κ 4 c (dev10_eq c)) $$ [HO H4 B4]
  · iframe HR; isplitl [HO]; · iexact HO
    isplitl [H4]; · iexact H4
    iexact B4
  iintro ⟨HO, F4⟩
  iapply (step_arrive Q K V κ 1 10 (by decide) c (credit_shape 1 rfl _)) $$ [HO Hc]
  · iframe HR Hlev; isplitl [HO]; · iexact HO
    iexact Hc
  iintro ⟨HO, Hz, Hl⟩
  ihave Hl := (show (landed Q K V 1 c : sProp 𝕄) ⊢ own c lvM (ownV V (left c)) from .rfl) $$ Hl
  ihave Hl := (owns_rows c lvM (ownV V (left c))) $$ Hl
  icases Hl with ⟨Hl, B5, Hl'⟩
  iapply (step_start Q K V κ 5 c (dev11_eq c)) $$ [HO H5 B5]
  · iframe HR; isplitl [HO]; · iexact HO
    isplitl [H5]; · iexact H5
    iexact B5
  iintro ⟨HO, F5⟩
  iapply (step_load c) $$ HB; iintro HB
  iapply (run_ret c)
  iapply Hk
  iframe

/-- The left keys of both heads and the left values of the first weighed in. -/
theorem part9 (c : Dev nD) {q : PosShare TreeShare} {B Y Z : S2x256x128.Idx → F .bf16} {a : S2x256x64.Idx → F .f32} {w : S2x1x256x1.Idx → F .f32} {w' : S2x1x256x1.Idx → F .f32} (b : Vec F S2x256x64 .bf16) {R : (Σ' (_ : FVec F S2x256x256 .f32), FVec F S2x256x1 .f32) → sProp 𝕄} :
    iprop(own c bM B ∗ ownsTc c lkM q Y ∗ ownsTc c lvM q Z ∗ own c aM0 a ∗ own c wM0 w ∗ own c wM1 w')
      ⊢ iprop(((own c bM B ∗ ownsTc c lkM q Y ∗ ownsTc c lvM q Z ∗ own c aM0 (k0_pay13 b (part head0 Y) (part head0 Z) a) ∗ own c wM0 (k0_pay12 b (part head0 Y) w) ∗ own c wM1 w') -∗ R ⟨k0_pay14 (part head1 B) (part head1 Y), k0_pay15 w'⟩) -∗ run c (on (k0_part9 (F := F)) b) R) := by
  iintro ⟨HB, HY, HZ, Ha, Hw, Hw'⟩ Hk
  simp only [k0_part9_eq_skeleton]
  unfold k0_part9_skel
  simp only [on, Prog.lift, Prog.bind_op, Prog.bind_ret, Prog.pure_eq_ret, Prog.bind_assoc]
  iapply (step_load c) $$ HY; iintro HY
  iapply (step_update c) $$ Hw; iintro Hw
  iapply (step_load c) $$ HZ; iintro HZ
  iapply (step_update c) $$ Ha; iintro Ha
  iapply (step_load c) $$ HB; iintro HB
  iapply (step_load c) $$ HY; iintro HY
  iapply (step_load_slice c) $$ Hw'; iintro Hw'
  iapply (run_ret c)
  iapply Hk
  iframe

/-- The left values of the second head weighed in; the right neighbour's keys arrive. -/
theorem part10 (Q K V : Dev nD → S4x2x256x128.Idx → F .bf16) (κ : GSem nD τ sig → ℕ) (c : Dev nD) {q : PosShare TreeShare} {Z : S2x256x128.Idx → F .bf16} (v2 v8 v20 : BitVec 32) (e : FVec F S2x256x256 .f32) (l : FVec F S2x256x1 .f32) {a : S2x256x64.Idx → F .f32} {w : S2x1x256x1.Idx → F .f32} {R : (Σ' (_ : BitVec 32), BitVec 32) → sProp 𝕄} :
    iprop(records Q K V κ ∗ levAts L lv ∗ owing 11 c ∗ awaited 2 c ∗ ownsTc c lvM q Z ∗ own c aM1 a ∗ own c wM1 w)
      ⊢ iprop(((owing 11 c ∗ (semVal (rcv c 2) 0 ∗ landed Q K V 2 c) ∗ ownsTc c lvM q Z ∗ own c aM1 (k0_pay17 e (part head1 Z) a) ∗ own c wM1 (k0_pay16 e l)) -∗ ∀ v, R v) -∗ run c (on (k0_part10 (F := F)) c v2 v8 v20 e l) R) := by
  iintro ⟨#HR, #Hlev, HO, Hc, HZ, Ha, Hw⟩ Hk
  simp only [k0_part10_eq_skeleton]
  unfold k0_part10_skel
  simp only [on, Prog.lift, Prog.bind_op, Prog.bind_ret, Prog.pure_eq_ret, Prog.bind_assoc]
  iapply (step_load_slice c) $$ Hw; iintro Hw
  iapply (step_store c) $$ Hw; iintro Hw
  iapply (step_load c) $$ HZ; iintro HZ
  iapply (step_update c) $$ Ha; iintro Ha
  iapply (step_arrive Q K V κ 2 11 (by decide) c (credit_shape 2 rfl _)) $$ [HO Hc]
  · iframe HR Hlev; isplitl [HO]; · iexact HO
    iexact Hc
  iintro ⟨HO, Hz, Hl⟩
  iapply (run_ret c)
  ihave Hk := Hk $$ [HO Hz Hl HZ Ha Hw]
  · iframe
  iapply Hk $$ %_

/-- The right neighbour's keys pass on to the left; its values arrive and pass on too. -/
theorem part11 (Q K V : Dev nD → S4x2x256x128.Idx → F .bf16) (κ : GSem nD τ sig → ℕ) (c : Dev nD) (v2 v8 v20 v290 v' : BitVec 32) {R : PUnit → sProp 𝕄} :
    iprop(records Q K V κ ∗ levAts L lv ∗ owing 11 c ∗ (ready 6 c ∗ back Q K V 6 c) ∗ awaited 3 c ∗ ready 7 c)
      ⊢ iprop(((owing 13 c ∗ flying 6 c ∗ semVal (rcv c 3) 0 ∗ (ownsTc c rvM fullShare.left (ownV V (right c))
          ∗ ownsTc c (rvM.slice upper (fun _ => rfl)) fullShare.right (part upper (ownV V (right c)))) ∗ flying 7 c) -∗ R ⟨⟩) -∗ run c (on (k0_part11 (F := F)) c v2 v8 v20 v290 v') R) := by
  iintro ⟨#HR, #Hlev, HO, ⟨H6, B6⟩, Hc, H7⟩ Hk
  simp only [k0_part11_eq_skeleton]
  unfold k0_part11_skel
  simp only [on, Prog.lift, Prog.bind_op, Prog.bind_ret, Prog.pure_eq_ret, Prog.bind_assoc]
  iapply (step_start Q K V κ 6 c (dev12_eq c)) $$ [HO H6 B6]
  · iframe HR; isplitl [HO]; · iexact HO
    isplitl [H6]; · iexact H6
    iexact B6
  iintro ⟨HO, F6⟩
  iapply (step_arrive Q K V κ 3 12 (by decide) c (credit_shape 3 rfl _)) $$ [HO Hc]
  · iframe HR Hlev; isplitl [HO]; · iexact HO
    iexact Hc
  iintro ⟨HO, Hz, Hl⟩
  ihave Hl := (show (landed Q K V 3 c : sProp 𝕄) ⊢ own c rvM (ownV V (right c)) from .rfl) $$ Hl
  ihave Hl := (owns_rows c rvM (ownV V (right c))) $$ Hl
  icases Hl with ⟨Hl, Hl', B7⟩
  iapply (step_start Q K V κ 7 c (dev13_eq c)) $$ [HO H7 B7]
  · iframe HR; isplitl [HO]; · iexact HO
    isplitl [H7]; · iexact H7
    iexact B7
  iintro ⟨HO, F7⟩
  iapply (run_ret c)
  iapply Hk
  iframe

/-- The right keys of the first head and the right values of it weighed in. -/
theorem part12 (c : Dev nD) {q : PosShare TreeShare} {B Y Z : S2x256x128.Idx → F .bf16} {a : S2x256x64.Idx → F .f32} {w : S2x1x256x1.Idx → F .f32} {R : FVec F S2x256x256 .f32 → sProp 𝕄} :
    iprop(own c bM B ∗ ownsTc c rkM q Y ∗ ownsTc c rvM q Z ∗ own c aM0 a ∗ own c wM0 w)
      ⊢ iprop(((own c bM B ∗ ownsTc c rkM q Y ∗ ownsTc c rvM q Z ∗ own c aM0 (k0_pay20 (part head0 B) (part head0 Y) (part head0 Z) a) ∗ own c wM0 (k0_pay19 (part head0 B) (part head0 Y) w)) -∗ R (k0_pay21 (part head1 B) (part head1 Y))) -∗ run c (on (k0_part12 (F := F))) R) := by
  iintro ⟨HB, HY, HZ, Ha, Hw⟩ Hk
  simp only [k0_part12_eq_skeleton]
  unfold k0_part12_skel
  simp only [on, Prog.lift, Prog.bind_op, Prog.bind_ret, Prog.pure_eq_ret, Prog.bind_assoc]
  iapply (step_load c) $$ HB; iintro HB
  iapply (step_load c) $$ HY; iintro HY
  iapply (step_update c) $$ Hw; iintro Hw
  iapply (step_load c) $$ HZ; iintro HZ
  iapply (step_update c) $$ Ha; iintro Ha
  iapply (step_load c) $$ HB; iintro HB
  iapply (step_load c) $$ HY; iintro HY
  iapply (run_ret c)
  iapply Hk
  iframe

/-- The right keys and values of the second head weighed in; the first far rows of keys arrive. -/
theorem part13 (Q K V : Dev nD → S4x2x256x128.Idx → F .bf16) (κ : GSem nD τ sig → ℕ) (c : Dev nD) {q : PosShare TreeShare} {Z : S2x256x128.Idx → F .bf16} (v2 v8 v31 : BitVec 32) (e : FVec F S2x256x256 .f32) {a : S2x256x64.Idx → F .f32} {w : S2x1x256x1.Idx → F .f32} {R : PUnit → sProp 𝕄} :
    iprop(records Q K V κ ∗ levAts L lv ∗ owing 13 c ∗ awaited 4 c ∗ ownsTc c rvM q Z ∗ own c aM1 a ∗ own c wM1 w)
      ⊢ iprop(((owing 13 c ∗ (semVal (rcv c 4) 0 ∗ landed Q K V 4 c) ∗ ownsTc c rvM q Z ∗ own c aM1 (k0_pay23 e (part head1 Z) a) ∗ own c wM1 (k0_pay22 e w)) -∗ R ⟨⟩) -∗ run c (on (k0_part13 (F := F)) v2 v8 v31 e) R) := by
  iintro ⟨#HR, #Hlev, HO, Hc, HZ, Ha, Hw⟩ Hk
  simp only [k0_part13_eq_skeleton]
  unfold k0_part13_skel
  simp only [on, Prog.lift, Prog.bind_op, Prog.bind_ret, Prog.pure_eq_ret, Prog.bind_assoc]
  iapply (step_update c) $$ Hw; iintro Hw
  iapply (step_load c) $$ HZ; iintro HZ
  iapply (step_update c) $$ Ha; iintro Ha
  iapply (step_arrive Q K V κ 4 13 (by decide) c (credit_shape 4 rfl _)) $$ [HO Hc]
  · iframe HR Hlev; isplitl [HO]; · iexact HO
    iexact Hc
  iintro ⟨HO, Hz, Hl⟩
  iapply (run_ret c)
  iapply Hk
  iframe

/-- The first far rows of values and the last far rows of keys arrive. -/
theorem part14 (Q K V : Dev nD → S4x2x256x128.Idx → F .bf16) (κ : GSem nD τ sig → ℕ) (c : Dev nD) (v2 v8 v20 v31 : BitVec 32) {R : PUnit → sProp 𝕄} :
    iprop(records Q K V κ ∗ levAts L lv ∗ owing 13 c ∗ awaited 5 c ∗ awaited 6 c)
      ⊢ iprop(((owing 13 c ∗ (semVal (rcv c 5) 0 ∗ landed Q K V 5 c) ∗ semVal (rcv c 6) 0 ∗ landed Q K V 6 c) -∗ R ⟨⟩) -∗ run c (on (k0_part14 (F := F)) v2 v8 v20 v31) R) := by
  iintro ⟨#HR, #Hlev, HO, H5, H6⟩ Hk
  simp only [k0_part14_eq_skeleton]
  unfold k0_part14_skel
  simp only [on, Prog.lift, Prog.bind_op, Prog.bind_ret, Prog.pure_eq_ret, Prog.bind_assoc]
  iapply (step_arrive Q K V κ 5 13 (by decide) c (credit_shape 5 rfl _)) $$ [HO H5]
  · iframe HR Hlev; isplitl [HO]; · iexact HO
    iexact H5
  iintro ⟨HO, Z5, L5⟩
  iapply (step_arrive Q K V κ 6 13 (by decide) c (credit_shape 6 rfl _)) $$ [HO H6]
  · iframe HR Hlev; isplitl [HO]; · iexact HO
    iexact H6
  iintro ⟨HO, Z6, L6⟩
  iapply (run_ret c)
  iapply Hk
  iframe

/-- The last far rows of values arrive; the far keys and values of the first head weighed in. -/
theorem part15 (Q K V : Dev nD → S4x2x256x128.Idx → F .bf16) (κ : GSem nD τ sig → ℕ) (c : Dev nD) {B Y : S2x256x128.Idx → F .bf16} {a : S2x256x64.Idx → F .f32} {w : S2x1x256x1.Idx → F .f32} {R : Vec F S2x256x64 .bf16 → sProp 𝕄} :
    iprop(records Q K V κ ∗ levAts L lv ∗ owing 13 c ∗ awaited 7 c ∗ own c bM B ∗ own c fkM Y ∗ landed Q K V 5 c ∗ own c aM0 a ∗ own c wM0 w)
      ⊢ iprop(((owing 13 c ∗ semVal (rcv c 7) 0 ∗ own c bM B ∗ own c fkM Y ∗ own c fvM (ownV V (left (left c)))
          ∗ own c aM0 (k0_pay26 (part head0 B) (part head0 Y) (part head0 (ownV V (left (left c)))) a) ∗ own c wM0 (k0_pay25 (part head0 B) (part head0 Y) w)) -∗ R (part head1 B)) -∗ run c (on (k0_part15 (F := F))) R) := by
  iintro ⟨#HR, #Hlev, HO, Hc, HB, HY, HZ, Ha, Hw⟩ Hk
  simp only [k0_part15_eq_skeleton]
  unfold k0_part15_skel
  simp only [on, Prog.lift, Prog.bind_op, Prog.bind_ret, Prog.pure_eq_ret, Prog.bind_assoc]
  iapply (step_arrive Q K V κ 7 13 (by decide) c (credit_shape 7 rfl _)) $$ [HO Hc]
  · iframe HR Hlev; isplitl [HO]; · iexact HO
    iexact Hc
  iintro ⟨HO, Hz, Hl⟩
  ihave HZ := (far_values Q K V c) $$ [HZ Hl]
  · isplitl [HZ]; · iexact HZ
    iexact Hl
  iapply (step_load c) $$ HB; iintro HB
  iapply (step_load c) $$ HY; iintro HY
  iapply (step_update c) $$ Hw; iintro Hw
  iapply (step_load c) $$ HZ; iintro HZ
  iapply (step_update c) $$ Ha; iintro Ha
  iapply (step_load c) $$ HB; iintro HB
  iapply (run_ret c)
  iapply Hk
  iframe

/-- The far keys and values of the second head weighed in. -/
theorem part16 (c : Dev nD) {q : PosShare TreeShare} {Y Z : S2x256x128.Idx → F .bf16} {a : S2x256x64.Idx → F .f32} {w : S2x1x256x1.Idx → F .f32} {a' : S2x256x64.Idx → F .f32} {w' : S2x1x256x1.Idx → F .f32} (b : Vec F S2x256x64 .bf16) {R : (Σ' (_ : FVec F S2x256x64 .f32), Vec F S2x256x64 .f32) → sProp 𝕄} :
    iprop(ownsTc c fkM q Y ∗ ownsTc c fvM q Z ∗ own c aM0 a ∗ own c wM0 w ∗ own c aM1 a' ∗ own c wM1 w')
      ⊢ iprop(((ownsTc c fkM q Y ∗ ownsTc c fvM q Z ∗ own c aM0 a ∗ own c wM0 w ∗ own c aM1 (k0_pay29 b (part head1 Y) (part head1 Z) a') ∗ own c wM1 (k0_pay28 b (part head1 Y) w')) -∗ R ⟨k0_pay30 a w, k0_pay29 b (part head1 Y) (part head1 Z) a'⟩) -∗ run c (on (k0_part16 (F := F)) b) R) := by
  iintro ⟨HY, HZ, Ha, Hw, Ha', Hw'⟩ Hk
  simp only [k0_part16_eq_skeleton]
  unfold k0_part16_skel
  simp only [on, Prog.lift, Prog.bind_op, Prog.bind_ret, Prog.pure_eq_ret, Prog.bind_assoc]
  iapply (step_load c) $$ HY; iintro HY
  iapply (step_update c) $$ Hw'; iintro Hw'
  iapply (step_load c) $$ HZ; iintro HZ
  iapply (step_update c) $$ Ha'; iintro Ha'
  iapply (step_load_slice c) $$ Ha; iintro Ha
  iapply (step_load_slice c) $$ Hw; iintro Hw
  iapply (step_load_slice c) $$ Ha'; iintro Ha'
  iapply (run_ret c)
  iapply Hk
  iframe

/-- The device's own result written, and on its way to the device across and the device beside. -/
theorem part17 (Q K V : Dev nD → S4x2x256x128.Idx → F .bf16) (κ : GSem nD τ sig → ℕ) (c : Dev nD) (v2 v5 v8 v9 v32 v45 : BitVec 32) (r : FVec F S2x256x64 .f32) (s : Vec F S2x256x64 .f32) {w : S2x1x256x1.Idx → F .f32} {X : S2x256x128.Idx → F .f32} {Y : S2x256x128.Idx → F .bf16}
    (hp : k0_pay32 r s w = packed (pieces Q K V c)) {R : PUnit → sProp 𝕄} :
    iprop(records Q K V κ ∗ owing 13 c ∗ own c wM1 w ∗ own c (oM.slice (pairO c) (fun _ => rfl)) X ∗ own c sM Y ∗ ready 8 c ∗ ready 9 c)
      ⊢ iprop(((owing 15 c ∗ own c wM1 w ∗ own c (oM.slice (pairO c) (fun _ => rfl)) (k0_pay31 r s w) ∗ flying 8 c ∗ flying 9 c ∗ back Q K V 10 c) -∗ R ⟨⟩) -∗ run c (on (k0_part17 (F := F)) c v2 v5 v8 v9 v32 v45 r s) R) := by
  iintro ⟨#HR, HO, Hw, HX, HY, H8, H9⟩ Hk
  simp only [k0_part17_eq_skeleton]
  unfold k0_part17_skel
  simp only [on, Prog.lift, Prog.bind_op, Prog.bind_ret, Prog.pure_eq_ret, Prog.bind_assoc]
  iapply (step_load_slice c) $$ Hw; iintro Hw
  iapply (step_load_slice c) $$ HX; iintro HX
  iapply (step_store c) $$ HX; iintro HX
  iapply (step_load c) $$ HY; iintro HY
  ihave HY := (Entails.of_eq (owns_full3 c fullShare sM (fun _ => rfl) Y).symm) $$ HY
  iapply (step_store c) $$ HY; iintro HY
  ihave HY := (Entails.of_eq (owns_full3 c fullShare sM (fun _ => rfl) (k0_pay32 r s w))) $$ HY
  rw [hp]
  ihave HY := (owns_three c sM (packed (pieces Q K V c))) $$ HY
  icases HY with ⟨B8, B9, B10⟩
  iapply (step_start Q K V κ 8 c (dev14_eq c)) $$ [HO H8 B8]
  · iframe HR; isplitl [HO]; · iexact HO
    isplitl [H8]; · iexact H8
    iexact B8
  iintro ⟨HO, F8⟩
  iapply (step_start Q K V κ 9 c (dev15_eq c)) $$ [HO H9 B9]
  · iframe HR; isplitl [HO]; · iexact HO
    isplitl [H9]; · iexact H9
    iexact B9
  iintro ⟨HO, F9⟩
  iapply (run_ret c)
  iapply Hk
  isplitl [HO]; · iexact HO
  isplitl [Hw]; · iexact Hw
  isplitl [HX]; · iexact HX
  isplitl [F8]; · iexact F8
  isplitl [F9]; · iexact F9
  iexact B10

/-- The own result on its way to the corner; the result from across arrives and is written. -/
theorem part18 (Q K V : Dev nD → S4x2x256x128.Idx → F .bf16) (κ : GSem nD τ sig → ℕ) (c : Dev nD) (v2 v5 v8 v9 v32 v33 v45 : BitVec 32) {X : S2x256x128.Idx → F .f32} {R : (Σ' (_ : BitVec 32), BitVec 32) → sProp 𝕄} :
    iprop(records Q K V κ ∗ levAts L lv ∗ owing 15 c ∗ (ready 10 c ∗ back Q K V 10 c) ∗ awaited 8 c ∗ own c (oM.slice (pairO1 c) (fun _ => rfl)) X)
      ⊢ iprop(((owing 16 c ∗ flying 10 c ∗ semVal (rcv c 8) 0 ∗ landed Q K V 8 c ∗ own c (oM.slice (pairO1 c) (fun _ => rfl)) (k0_pay33 (packed (pieces Q K V (across c))))) -∗ ∀ v, R v) -∗ run c (on (k0_part18 (F := F)) c v2 v5 v8 v9 v32 v33 v45) R) := by
  iintro ⟨#HR, #Hlev, HO, ⟨H10, B10⟩, Hc, HX⟩ Hk
  simp only [k0_part18_eq_skeleton]
  unfold k0_part18_skel
  simp only [on, Prog.lift, Prog.bind_op, Prog.bind_ret, Prog.pure_eq_ret, Prog.bind_assoc]
  iapply (step_start Q K V κ 10 c (dev16_eq c)) $$ [HO H10 B10]
  · iframe HR; isplitl [HO]; · iexact HO
    isplitl [H10]; · iexact H10
    iexact B10
  iintro ⟨HO, F10⟩
  iapply (step_arrive Q K V κ 8 16 (by decide) c (credit_shape 8 rfl _)) $$ [HO Hc]
  · iframe HR Hlev; isplitl [HO]; · iexact HO
    iexact Hc
  iintro ⟨HO, Hz, Hl⟩
  ihave Hl := (show (landed Q K V 8 c : sProp 𝕄) ⊢ own c xM (packed (pieces Q K V (across c))) from .rfl) $$ Hl
  iapply (step_load c) $$ Hl; iintro Hl
  iapply (step_load_slice c) $$ HX; iintro HX
  iapply (step_store c) $$ HX; iintro HX
  rw [part_full3]
  iapply (run_ret c)
  ihave Hk := Hk $$ [HO F10 Hz Hl HX]
  · isplitl [HO]; · iexact HO
    isplitl [F10]; · iexact F10
    isplitl [Hz]; · iexact Hz
    isplitl [Hl]; · iexact Hl
    iexact HX
  iapply Hk $$ %_

/-- The results from beside and from the corner arrive and are written; the first transfer has left. -/
theorem part19 (Q K V : Dev nD → S4x2x256x128.Idx → F .bf16) (κ : GSem nD τ sig → ℕ) (c : Dev nD) (v5 v9 v33 v490 v491 : BitVec 32) {X X' : S2x256x128.Idx → F .f32} {R : PUnit → sProp 𝕄} :
    iprop(records Q K V κ ∗ levAts L lv ∗ owing 16 c ∗ awaited 9 c ∗ awaited 10 c ∗ flying 0 c ∗ own c (oM.slice (pairO2 c) (fun _ => rfl)) X ∗ own c (oM.slice (pairO3 c) (fun _ => rfl)) X')
      ⊢ iprop(((owing 16 c ∗ (semVal (rcv c 9) 0 ∗ landed Q K V 9 c) ∗ (semVal (rcv c 10) 0 ∗ landed Q K V 10 c) ∗ (semVal (snd c 0) 0 ∗ back Q K V 0 c)
          ∗ own c (oM.slice (pairO2 c) (fun _ => rfl)) (k0_pay34 (packed (pieces Q K V (beside c)))) ∗ own c (oM.slice (pairO3 c) (fun _ => rfl)) (k0_pay35 (packed (pieces Q K V (corner c))))) -∗ R ⟨⟩) -∗ run c (on (k0_part19 (F := F)) c v5 v9 v33 v490 v491) R) := by
  iintro ⟨#HR, #Hlev, HO, H9, H10, F0, HX, HX'⟩ Hk
  simp only [k0_part19_eq_skeleton]
  unfold k0_part19_skel
  simp only [on, Prog.lift, Prog.bind_op, Prog.bind_ret, Prog.pure_eq_ret, Prog.bind_assoc]
  iapply (step_arrive Q K V κ 9 16 (by decide) c (credit_shape 9 rfl _)) $$ [HO H9]
  · iframe HR Hlev; isplitl [HO]; · iexact HO
    iexact H9
  iintro ⟨HO, Z9, L9⟩
  ihave L9 := (show (landed Q K V 9 c : sProp 𝕄) ⊢ own c zM (packed (pieces Q K V (beside c))) from .rfl) $$ L9
  iapply (step_load c) $$ L9; iintro L9
  iapply (step_load_slice c) $$ HX; iintro HX
  iapply (step_store c) $$ HX; iintro HX
  iapply (step_arrive Q K V κ 10 16 (by decide) c (credit_shape 10 rfl _)) $$ [HO H10]
  · iframe HR Hlev; isplitl [HO]; · iexact HO
    iexact H10
  iintro ⟨HO, Z10, L10⟩
  ihave L10 := (show (landed Q K V 10 c : sProp 𝕄) ⊢ own c dM (packed (pieces Q K V (corner c))) from .rfl) $$ L10
  iapply (step_load c) $$ L10; iintro L10
  iapply (step_load_slice c) $$ HX'; iintro HX'
  iapply (step_store c) $$ HX'; iintro HX'
  iapply (step_left Q K V κ 0 16 (by decide) c (credit_shape 0 rfl _)) $$ [HO F0]
  · iframe HR Hlev; isplitl [HO]; · iexact HO
    iexact F0
  iintro ⟨HO, Z0, B0⟩
  rw [part_full3, part_full3]
  iapply (run_ret c)
  iapply Hk
  isplitl [HO]; · iexact HO
  isplitl [Z9 L9]
  · isplitl [Z9]; · iexact Z9
    iexact L9
  isplitl [Z10 L10]
  · isplitl [Z10]; · iexact Z10
    iexact L10
  isplitl [Z0 B0]
  · isplitl [Z0]; · iexact Z0
    iexact B0
  isplitl [HX]; · iexact HX
  iexact HX'

/-- Five more transfers have left. -/
theorem part20 (Q K V : Dev nD → S4x2x256x128.Idx → F .bf16) (κ : GSem nD τ sig → ℕ) (c : Dev nD) {R : PUnit → sProp 𝕄} :
    iprop(records Q K V κ ∗ levAts L lv ∗ owing 16 c ∗ flying 1 c ∗ flying 2 c ∗ flying 3 c ∗ flying 4 c ∗ flying 5 c)
      ⊢ iprop(((owing 16 c ∗ (semVal (snd c 1) 0 ∗ back Q K V 1 c) ∗ (semVal (snd c 2) 0 ∗ back Q K V 2 c) ∗ (semVal (snd c 3) 0 ∗ back Q K V 3 c) ∗ (semVal (snd c 4) 0 ∗ back Q K V 4 c) ∗ (semVal (snd c 5) 0 ∗ back Q K V 5 c)) -∗ R ⟨⟩) -∗ run c (on (k0_part20 (F := F)) c) R) := by
  iintro ⟨#HR, #Hlev, HO, F1, F2, F3, F4, F5⟩ Hk
  simp only [k0_part20_eq_skeleton]
  unfold k0_part20_skel
  simp only [on, Prog.lift, Prog.bind_op, Prog.bind_ret, Prog.pure_eq_ret, Prog.bind_assoc]
  iapply (step_left Q K V κ 1 16 (by decide) c (credit_shape 1 rfl _)) $$ [HO F1]
  · iframe HR Hlev; isplitl [HO]; · iexact HO
    iexact F1
  iintro ⟨HO, Z1, B1⟩
  iapply (step_left Q K V κ 2 16 (by decide) c (credit_shape 2 rfl _)) $$ [HO F2]
  · iframe HR Hlev; isplitl [HO]; · iexact HO
    iexact F2
  iintro ⟨HO, Z2, B2⟩
  iapply (step_left Q K V κ 3 16 (by decide) c (credit_shape 3 rfl _)) $$ [HO F3]
  · iframe HR Hlev; isplitl [HO]; · iexact HO
    iexact F3
  iintro ⟨HO, Z3, B3⟩
  iapply (step_left Q K V κ 4 16 (by decide) c (credit_shape 4 rfl _)) $$ [HO F4]
  · iframe HR Hlev; isplitl [HO]; · iexact HO
    iexact F4
  iintro ⟨HO, Z4, B4⟩
  iapply (step_left Q K V κ 5 16 (by decide) c (credit_shape 5 rfl _)) $$ [HO F5]
  · iframe HR Hlev; isplitl [HO]; · iexact HO
    iexact F5
  iintro ⟨HO, Z5, B5⟩
  iapply (run_ret c)
  iapply Hk
  iframe

end Cert.KernelIdeal.Talk
-- ==== Proof.Body.lean ====
/-
The kernel's body on one device, put together from its stretches: what it starts from and what it ends with.
-/
module

public import proofs.«01_k».proof.Proof.Compute

@[expose] public section

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig Unit (Elt F) ℕ UU ℕ

/-! ## Putting programs together -/

theorem run_bind (c : Dev nD) {α β : Type} (p : Prog (TpuEff nD τ sig (Elt F) Λ₀ .tc) α) (k : α → Prog (TpuEff nD τ sig (Elt F) Λ₀ .tc) β) {R : β → sProp 𝕄} :
    run c p (fun v => run c (k v) R) ⊢ run c (p >>= k) R := by
  unfold run; rw [wp_bind]

/-- What transfer `i` needs besides its source and its landing buffer. -/
def primed (i : Fin 11) (c : Dev nD) : sProp 𝕄 :=
  iprop((dutyTok ER (snd c i) 0 0 ∗ dutyTok ER (rcv (peer i c) i) 0 0) ∗ (atPos ER (snd c i) 0 ∅ 0 ∗ reached ER (snd c i) 0))

theorem ready_intro (i : Fin 11) (c : Dev nD) : iprop(primed i c ∗ slot i (peer i c)) ⊢ (ready i c : sProp 𝕄) := by
  unfold primed ready
  iintro ⟨⟨H, H'⟩, H''⟩
  isplitl [H]; · iexact H
  isplitl [H']; · iexact H'
  iexact H''

/-- A device's right to raise the barrier counter of its `k`-th neighbour, and what it hands over there. -/
abbrev gift (k : Fin 5) (c : Dev nD) : sProp 𝕄 := iprop(dutyTok ER (bar (nbr k c)) 0 k ∗ land k c)

/-- The barrier counters as the program names them. -/
abbrev barA : Sems sig S_ := SemArray.scalar (sig.barrier 0 rfl)

/-! ## The first three stretches -/

theorem part1 (c : Dev nD) {R : (Σ' (_ : Dev nD) (_ : BitVec 32) (_ : BitVec 32) (_ : BitVec 32) (_ : BitVec 32) (_ : BitVec 32) (_ : BitVec 32) (_ : BitVec 32) (_ : BitVec 32), BitVec 32) → sProp 𝕄} :
    iprop(∀ v2 v5 v8 v9 v20 v31 v32 v33 v34, R ⟨c, v2, v5, v8, v9, v20, v31, v32, v33, v34⟩) ⊢ run c (on (k0_part1 (F := F))) R := by
  simp only [k0_part1_eq_skeleton]
  unfold k0_part1_skel
  simp only [on, Prog.lift, Prog.bind_op, Prog.bind_ret, Prog.pure_eq_ret, Prog.bind_assoc]
  unfold run
  rw [wp_deviceId]
  iintro H
  iapply (run_ret c)
  iapply H

theorem part2 (Q K V : Dev nD → S4x2x256x128.Idx → F .bf16) (κ : GSem nD τ sig → ℕ) (c : Dev nD) (v2 v5 v8 v20 v31 v32 v34 : BitVec 32)
    {R : (Σ' (_ : BitVec 32) (_ : Sems sig S_) (_ : BitVec 32), BitVec 32) → sProp 𝕄} :
    iprop(records Q K V κ ∗ owing 0 c ∗ gift 0 c ∗ gift 1 c ∗ gift 2 c)
      ⊢ iprop((owing 3 c -∗ ∀ v45 v66 v', R ⟨v45, barA, v66, v'⟩) -∗ run c (on (k0_part2 (F := F)) c v2 v5 v8 v20 v31 v32 v34) R) := by
  iintro ⟨#HR, HO, ⟨T0, L0⟩, ⟨T1, L1⟩, ⟨T2, L2⟩⟩ Hk
  simp only [k0_part2_eq_skeleton]
  unfold k0_part2_skel
  simp only [on, semSignalWord, Prog.lift, Prog.bind_op, Prog.bind_ret, Prog.pure_eq_ret, Prog.bind_assoc]
  iapply (step_signal Q K V κ c 0 (dev1_eq c)) $$ [HO T0 L0]
  · iframe HR; isplitl [HO]; · iexact HO
    isplitl [T0]; · iexact T0
    iexact L0
  iintro HO
  iapply (step_signal Q K V κ c 1 (dev2_eq c)) $$ [HO T1 L1]
  · iframe HR; isplitl [HO]; · iexact HO
    isplitl [T1]; · iexact T1
    iexact L1
  iintro HO
  iapply (step_signal Q K V κ c 2 (dev3_eq c)) $$ [HO T2 L2]
  · iframe HR; isplitl [HO]; · iexact HO
    isplitl [T2]; · iexact T2
    iexact L2
  iintro HO
  iapply (run_ret c)
  ispecialize Hk $$ [HO]
  · iexact HO
  iapply Hk

theorem part3 (Q K V : Dev nD → S4x2x256x128.Idx → F .bf16) (κ : GSem nD τ sig → ℕ) (c : Dev nD) (v2 v5 v8 v9 v31 v33 v66 v' : BitVec 32) {R : PUnit → sProp 𝕄} :
    iprop(records Q K V κ ∗ levAts L lv ∗ owing 3 c ∗ gift 3 c ∗ gift 4 c ∗ (atPos ER (bar c) 0 ∅ 0 ∗ cred (tallyAt (bar c) () 5)) ∗ primed 0 c ∗ back Q K V 0 c)
      ⊢ iprop(((owing 6 c ∗ semVal (bar c) 0 ∗ flying 0 c
          ∗ (slot 1 (peer 1 c) ∗ slot 4 (peer 4 c) ∗ slot 5 (peer 5 c))
          ∗ (slot 2 (peer 2 c) ∗ slot 3 (peer 3 c) ∗ slot 6 (peer 6 c) ∗ slot 7 (peer 7 c))
          ∗ slot 8 (peer 8 c) ∗ slot 9 (peer 9 c) ∗ slot 10 (peer 10 c)) -∗ R ⟨⟩)
        -∗ run c (on (k0_part3 (F := F)) c v2 v5 v8 v9 v31 v33 barA v66 v') R) := by
  iintro ⟨#HR, #Hlev, HO, ⟨T3, L3⟩, ⟨T4, L4⟩, ⟨Hat, Hc⟩, P0, B0⟩ Hk
  simp only [k0_part3_eq_skeleton]
  unfold k0_part3_skel
  simp only [on, semSignalWord, semWaitWord, Prog.lift, Prog.bind_op, Prog.bind_ret, Prog.pure_eq_ret, Prog.bind_assoc]
  iapply (step_signal Q K V κ c 3 (dev4_eq c)) $$ [HO T3 L3]
  · iframe HR; isplitl [HO]; · iexact HO
    isplitl [T3]; · iexact T3
    iexact L3
  iintro HO
  iapply (step_signal Q K V κ c 4 (dev5_eq c)) $$ [HO T4 L4]
  · iframe HR; isplitl [HO]; · iexact HO
    isplitl [T4]; · iexact T4
    iexact L4
  iintro HO
  iapply (step_barrier Q K V κ c) $$ [HO Hat Hc]
  · iframe HR Hlev; isplitl [HO]; · iexact HO
    isplitl [Hat]; · iexact Hat
    iexact Hc
  unfold slots
  iintro ⟨HO, Hz, ⟨S0, Sa⟩, Sb⟩
  ihave H0 := (ready_intro 0 c) $$ [P0 S0]
  · isplitl [P0]; · iexact P0
    iexact S0
  iapply (step_start Q K V κ 0 c (dev6_eq c)) $$ [HO H0 B0]
  · iframe HR; isplitl [HO]; · iexact HO
    isplitl [H0]; · iexact H0
    iexact B0
  iintro ⟨HO, F0⟩
  iapply (run_ret c)
  iapply Hk
  isplitl [HO]; · iexact HO
  isplitl [Hz]; · iexact Hz
  isplitl [F0]; · iexact F0
  isplitl [Sa]; · iexact Sa
  iexact Sb

/-! ## Pieces put back together -/

omit [FloatOps F] [∀ e, Nonempty (Elt F e)] in
/-- Contents given on two disjoint rectangles. -/
theorem both_parts {s : Shape} {α : Type} [Nonempty α] (r r' : Rect s) (hd : Disjoint r.set r'.set) (a : r.shape.Idx → α) (a' : r'.shape.Idx → α) :
    ∃ X : s.Idx → α, part r X = a ∧ part r' X = a' := by
  refine ⟨Function.extend r.emb a (Function.extend r'.emb a' fun _ => Classical.arbitrary α), funext fun j => ?_, funext fun j => ?_⟩
  · exact r.emb.injective.extend_apply _ _ _
  · refine (Function.extend_apply' _ _ _ ?_).trans (r'.emb.injective.extend_apply _ _ _)
    rintro ⟨k, hk⟩
    have h1 : r.emb k ∈ r.set := by rw [← Rect.map_emb_univ]; exact Finset.mem_map_of_mem _ (Finset.mem_univ k)
    have h2 : r'.emb j ∈ r'.set := by rw [← Rect.map_emb_univ]; exact Finset.mem_map_of_mem _ (Finset.mem_univ j)
    exact (Finset.disjoint_left.mp hd) h1 ((show r.emb k = r'.emb j from hk) ▸ h2)

theorem sums_join (c : Dev nD) (a : S2x256x64.Idx → F .f32) (a' : S2x256x64.Idx → F .f32) :
    iprop(own c aM0 a ∗ own c aM1 a') ⊢ (iprop(∃ X, own c aM X) : sProp 𝕄) := by
  haveI : Nonempty (F .f32) := (inferInstance : Nonempty (Elt F .f32))
  obtain ⟨X, rfl, rfl⟩ := both_parts head0 head1 heads_disjoint a a'
  iintro H
  iexists X
  iapply (owns_glue c aM fullShare head0 head1 (fun _ => rfl) (fun _ => rfl) heads_disjoint heads_cover X)
  iexact H

theorem weights_join (c : Dev nD) (w : S2x1x256x1.Idx → F .f32) (w' : S2x1x256x1.Idx → F .f32) :
    iprop(own c wM0 w ∗ own c wM1 w') ⊢ (iprop(∃ X, own c wM X) : sProp 𝕄) := by
  haveI : Nonempty (F .f32) := (inferInstance : Nonempty (Elt F .f32))
  obtain ⟨X, rfl, rfl⟩ := both_parts sum0 sum1 sums_disjoint w w'
  iintro H
  iexists X
  iapply (owns_glue c wM fullShare sum0 sum1 (fun _ => rfl) (fun _ => rfl) sums_disjoint sums_cover X)
  iexact H

/-- The four head pairs of the result as device `c` writes them: its own, and those of the three others of its square. -/
def written (Q K V : Dev nD → S4x2x256x128.Idx → F .bf16) (c : Dev nD) : Fin 4 → S2x256x128.Idx → F .f32
  | 0 => result (pieces Q K V c)
  | 1 => k0_pay33 (packed (pieces Q K V (across c)))
  | 2 => k0_pay34 (packed (pieces Q K V (beside c)))
  | 3 => k0_pay35 (packed (pieces Q K V (corner c)))

/-! ## The body -/

/-- What device `c` starts from, besides its staged blocks. -/
def start (c : Dev nD) : sProp 𝕄 :=
  iprop((gift 0 c ∗ gift 1 c ∗ gift 2 c ∗ gift 3 c ∗ gift 4 c) ∗ (atPos ER (bar c) 0 ∅ 0 ∗ cred (tallyAt (bar c) () 5))
    ∗ (primed 0 c ∗ primed 1 c ∗ primed 2 c ∗ primed 3 c ∗ primed 4 c ∗ primed 5 c ∗ primed 6 c ∗ primed 7 c ∗ primed 8 c ∗ primed 9 c ∗ primed 10 c)
    ∗ (awaited 0 c ∗ awaited 1 c ∗ awaited 2 c ∗ awaited 3 c ∗ awaited 4 c ∗ awaited 5 c ∗ awaited 6 c ∗ awaited 7 c ∗ awaited 8 c ∗ awaited 9 c ∗ awaited 10 c)
    ∗ (∃ X, own c bM X) ∗ (∃ X, own c sM X) ∗ (∃ X, own c aM X) ∗ (∃ X, own c wM X))

/-- What it ends with: every counter at zero, every buffer back. -/
def finish (c : Dev nD) : sProp 𝕄 :=
  iprop(semVal (bar c) 0
    ∗ (semVal (snd c 0) 0 ∗ semVal (snd c 1) 0 ∗ semVal (snd c 2) 0 ∗ semVal (snd c 3) 0 ∗ semVal (snd c 4) 0 ∗ semVal (snd c 5) 0 ∗ semVal (snd c 6) 0
      ∗ semVal (snd c 7) 0 ∗ semVal (snd c 8) 0 ∗ semVal (snd c 9) 0 ∗ semVal (snd c 10) 0)
    ∗ (semVal (rcv c 0) 0 ∗ semVal (rcv c 1) 0 ∗ semVal (rcv c 2) 0 ∗ semVal (rcv c 3) 0 ∗ semVal (rcv c 4) 0 ∗ semVal (rcv c 5) 0 ∗ semVal (rcv c 6) 0
      ∗ semVal (rcv c 7) 0 ∗ semVal (rcv c 8) 0 ∗ semVal (rcv c 9) 0 ∗ semVal (rcv c 10) 0)
    ∗ (∃ X, own c lkM X) ∗ (∃ X, own c lvM X) ∗ (∃ X, own c rkM X) ∗ (∃ X, own c rvM X) ∗ (∃ X, own c fkM X) ∗ (∃ X, own c fvM X)
    ∗ (∃ X, own c bM X) ∗ (∃ X, own c sM X) ∗ (∃ X, own c xM X) ∗ (∃ X, own c zM X) ∗ (∃ X, own c dM X) ∗ (∃ X, own c aM X) ∗ (∃ X, own c wM X))

theorem body_run (Q K V : Dev nD → S4x2x256x128.Idx → F .bf16) (κ : GSem nD τ sig → ℕ) (c : Dev nD) {R : PUnit → sProp 𝕄} :
    iprop(records Q K V κ ∗ levAts L lv ∗ owing 0 c ∗ start c ∗ own c qM (Q c) ∗ own c kM (K c) ∗ own c vM (V c) ∗ ∃ X, own c oM X)
      ⊢ iprop(((owing 16 c ∗ finish c ∗ own c qM (Q c) ∗ own c kM (K c) ∗ own c vM (V c) ∗ own c oM (joined c (written Q K V c))) -∗ R ⟨⟩)
        -∗ run c (on (k0_part21 (F := F))) R) := by
  unfold start
  iintro ⟨#HR, #Hlev, HO, ⟨⟨G0, G1, G2, G3, G4⟩, Hbar, ⟨P0, P1, P2, P3, P4, P5, P6, P7, P8, P9, P10⟩, ⟨A0, A1, A2, A3, A4, A5, A6, A7, A8, A9, A10⟩,
    ⟨%xb, Hb⟩, ⟨%xs, Hs⟩, ⟨%xa, Ha⟩, ⟨%xw, Hw⟩⟩, HQ, HK, HV, ⟨%xo, Ho⟩⟩ Hk
  ihave HK := (owns_pairK c (K c)) $$ HK
  icases HK with ⟨HK, WK⟩
  ihave HV := (owns_pairV c (V c)) $$ HV
  icases HV with ⟨HV, WV⟩
  ihave HK := (show (own c (kqM c) ((kqM c).view.read (Elt F) (K c)) : sProp 𝕄) ⊢ own c (kqM c) (ownK K c) from .rfl) $$ HK
  ihave HK := (owns_three c (kqM c) (ownK K c)) $$ HK
  icases HK with ⟨HK, B0, B2⟩
  ihave HV := (show (own c (vqM c) ((vqM c).view.read (Elt F) (V c)) : sProp 𝕄) ⊢ own c (vqM c) (ownV V c) from .rfl) $$ HV
  ihave HV := (owns_three c (vqM c) (ownV V c)) $$ HV
  icases HV with ⟨HV, B1, B3⟩
  ihave Ho := (owns_columns c xo) $$ Ho
  icases Ho with ⟨Ho, Ho1, Ho2, Ho3⟩
  ihave B0 := (show (ownsTc c (kqM c) fullShare.right.left (ownK K c) : sProp 𝕄) ⊢ back Q K V 0 c from .rfl) $$ B0
  ihave B1 := (show (ownsTc c (vqM c) fullShare.right.left (ownV V c) : sProp 𝕄) ⊢ back Q K V 1 c from .rfl) $$ B1
  ihave B2 := (show (ownsTc c (kqM c) fullShare.right.right (ownK K c) : sProp 𝕄) ⊢ back Q K V 2 c from .rfl) $$ B2
  ihave B3 := (show (ownsTc c (vqM c) fullShare.right.right (ownV V c) : sProp 𝕄) ⊢ back Q K V 3 c from .rfl) $$ B3
  simp only [on, k0_part21_eq_skeleton]
  unfold k0_part21_skel
  simp only [Prog.lift]
  iapply (run_bind c)
  iapply (part1 c)
  iintro %v2 %v5 %v8 %v9 %v20 %v31 %v32 %v33 %v34
  iapply (run_bind c)
  iapply (part2 Q K V κ c v2 v5 v8 v20 v31 v32 v34) $$ [HO G0 G1 G2]
  · iframe HR
    isplitl [HO]
    · iexact HO
    isplitl [G0]
    · iexact G0
    isplitl [G1]
    · iexact G1
    iexact G2
  iintro HO %v45 %v66 %w0
  iapply (run_bind c)
  iapply (part3 Q K V κ c v2 v5 v8 v9 v31 v33 v66 w0) $$ [HO G3 G4 Hbar P0 B0]
  · iframe HR Hlev
    isplitl [HO]
    · iexact HO
    isplitl [G3]
    · iexact G3
    isplitl [G4]
    · iexact G4
    isplitl [Hbar]
    · iexact Hbar
    isplitl [P0]
    · iexact P0
    iexact B0
  iintro ⟨HO, Zb, F0, ⟨S1, S4, S5⟩, ⟨S2, S3, S6, S7⟩, S8, S9, S10⟩
  ihave R1 := (ready_intro 1 c) $$ [P1 S1]
  · isplitl [P1]; · iexact P1
    iexact S1
  ihave R2 := (ready_intro 2 c) $$ [P2 S2]
  · isplitl [P2]; · iexact P2
    iexact S2
  ihave R3 := (ready_intro 3 c) $$ [P3 S3]
  · isplitl [P3]; · iexact P3
    iexact S3
  ihave R4 := (ready_intro 4 c) $$ [P4 S4]
  · isplitl [P4]; · iexact P4
    iexact S4
  ihave R5 := (ready_intro 5 c) $$ [P5 S5]
  · isplitl [P5]; · iexact P5
    iexact S5
  ihave R6 := (ready_intro 6 c) $$ [P6 S6]
  · isplitl [P6]; · iexact P6
    iexact S6
  ihave R7 := (ready_intro 7 c) $$ [P7 S7]
  · isplitl [P7]; · iexact P7
    iexact S7
  ihave R8 := (ready_intro 8 c) $$ [P8 S8]
  · isplitl [P8]; · iexact P8
    iexact S8
  ihave R9 := (ready_intro 9 c) $$ [P9 S9]
  · isplitl [P9]; · iexact P9
    iexact S9
  ihave R10 := (ready_intro 10 c) $$ [P10 S10]
  · isplitl [P10]; · iexact P10
    iexact S10
  iapply (run_bind c)
  iapply (part4 Q K V κ c v2 v8 v20 v45) $$ [HO R1 B1 R2 B2 R3 B3 HQ]
  · iframe HR
    isplitl [HO]
    · iexact HO
    isplitl [R1 B1]
    · isplitl [R1]
      · iexact R1
      iexact B1
    isplitl [R2 B2]
    · isplitl [R2]
      · iexact R2
      iexact B2
    isplitl [R3 B3]
    · isplitl [R3]
      · iexact R3
      iexact B3
    iexact HQ
  iintro ⟨HO, F1, F2, F3, HQ⟩
  iapply (run_bind c)
  iapply (part5 c _) $$ [Hb Ha Hw HK]
  · isplitl [Hb]
    · iexact Hb
    isplitl [Ha]
    · iexact Ha
    isplitl [Hw]
    · iexact Hw
    iexact HK
  iintro ⟨Hb, ⟨Ha, Ha'⟩, ⟨Hw, Hw'⟩, HK⟩
  iapply (run_bind c)
  iapply (part6 c _) $$ [Hb HK HV Ha Hw']
  · isplitl [Hb]
    · iexact Hb
    isplitl [HK]
    · iexact HK
    isplitl [HV]
    · iexact HV
    isplitl [Ha]
    · iexact Ha
    iexact Hw'
  iintro ⟨Hb, HK, HV, Ha, Hw'⟩
  iapply (run_bind c)
  iapply (part7 Q K V κ c v2 v8 v31 _) $$ [HO A0 HV Ha']
  · iframe HR Hlev
    isplitl [HO]
    · iexact HO
    isplitl [A0]
    · iexact A0
    isplitl [HV]
    · iexact HV
    iexact Ha'
  iintro ⟨HO, ⟨Zr0, Hl⟩, HV, Ha'⟩
  ihave Hl := (show (landed Q K V 0 c : sProp 𝕄) ⊢ own c lkM (ownK K (left c)) from .rfl) $$ Hl
  ihave Hl := (owns_rows c lkM (ownK K (left c))) $$ Hl
  icases Hl with ⟨Hlk, B4, Hlk'⟩
  ihave B4 := (show (ownsTc c (lkM.slice upper (fun _ => rfl)) fullShare.right (part upper (ownK K (left c))) : sProp 𝕄) ⊢ back Q K V 4 c from .rfl) $$ B4
  iapply (run_bind c)
  iapply (part8 Q K V κ c v2 v8 v31) $$ [HO R4 B4 A1 R5 Hb]
  · iframe HR Hlev
    isplitl [HO]
    · iexact HO
    isplitl [R4 B4]
    · isplitl [R4]
      · iexact R4
      iexact B4
    isplitl [A1]
    · iexact A1
    isplitl [R5]
    · iexact R5
    iexact Hb
  iintro ⟨HO, F4, Zr1, ⟨Hlv, Hlv'⟩, F5, Hb⟩
  iapply (run_bind c)
  iapply (part9 c _) $$ [Hb Hlk Hlv Ha Hw Hw']
  · isplitl [Hb]
    · iexact Hb
    isplitl [Hlk]
    · iexact Hlk
    isplitl [Hlv]
    · iexact Hlv
    isplitl [Ha]
    · iexact Ha
    isplitl [Hw]
    · iexact Hw
    iexact Hw'
  iintro ⟨Hb, Hlk, Hlv, Ha, Hw, Hw'⟩
  iapply (run_bind c)
  iapply (part10 Q K V κ c v2 v8 v20 _ _) $$ [HO A2 Hlv Ha' Hw']
  · iframe HR Hlev
    isplitl [HO]
    · iexact HO
    isplitl [A2]
    · iexact A2
    isplitl [Hlv]
    · iexact Hlv
    isplitl [Ha']
    · iexact Ha'
    iexact Hw'
  iintro ⟨HO, ⟨Zr2, Hl⟩, Hlv, Ha', Hw'⟩ %w1
  ihave Hl := (show (landed Q K V 2 c : sProp 𝕄) ⊢ own c rkM (ownK K (right c)) from .rfl) $$ Hl
  ihave Hl := (owns_rows c rkM (ownK K (right c))) $$ Hl
  icases Hl with ⟨Hrk, Hrk', B6⟩
  ihave B6 := (show (ownsTc c (rkM.slice lower (fun _ => rfl)) fullShare.right (part lower (ownK K (right c))) : sProp 𝕄) ⊢ back Q K V 6 c from .rfl) $$ B6
  iapply (run_bind c)
  iapply (part11 Q K V κ c v2 v8 v20 _ _) $$ [HO R6 B6 A3 R7]
  · iframe HR Hlev
    isplitl [HO]
    · iexact HO
    isplitl [R6 B6]
    · isplitl [R6]
      · iexact R6
      iexact B6
    isplitl [A3]
    · iexact A3
    iexact R7
  iintro ⟨HO, F6, Zr3, ⟨Hrv, Hrv'⟩, F7⟩
  iapply (run_bind c)
  iapply (part12 c) $$ [Hb Hrk Hrv Ha Hw]
  · isplitl [Hb]
    · iexact Hb
    isplitl [Hrk]
    · iexact Hrk
    isplitl [Hrv]
    · iexact Hrv
    isplitl [Ha]
    · iexact Ha
    iexact Hw
  iintro ⟨Hb, Hrk, Hrv, Ha, Hw⟩
  iapply (run_bind c)
  iapply (part13 Q K V κ c v2 v8 v31 _) $$ [HO A4 Hrv Ha' Hw']
  · iframe HR Hlev
    isplitl [HO]
    · iexact HO
    isplitl [A4]
    · iexact A4
    isplitl [Hrv]
    · iexact Hrv
    isplitl [Ha']
    · iexact Ha'
    iexact Hw'
  iintro ⟨HO, ⟨Zr4, L4⟩, Hrv, Ha', Hw'⟩
  iapply (run_bind c)
  iapply (part14 Q K V κ c v2 v8 v20 v31) $$ [HO A5 A6]
  · iframe HR Hlev
    isplitl [HO]
    · iexact HO
    isplitl [A5]
    · iexact A5
    iexact A6
  iintro ⟨HO, ⟨Zr5, L5⟩, Zr6, L6⟩
  ihave Hfk := (far_keys Q K V c) $$ [L4 L6]
  · isplitl [L4]; · iexact L4
    iexact L6
  iapply (run_bind c)
  iapply (part15 Q K V κ c) $$ [HO A7 Hb Hfk L5 Ha Hw]
  · iframe HR Hlev
    isplitl [HO]
    · iexact HO
    isplitl [A7]
    · iexact A7
    isplitl [Hb]
    · iexact Hb
    isplitl [Hfk]
    · iexact Hfk
    isplitl [L5]
    · iexact L5
    isplitl [Ha]
    · iexact Ha
    iexact Hw
  iintro ⟨HO, Zr7, Hb, Hfk, Hfv, Ha, Hw⟩
  iapply (run_bind c)
  iapply (part16 c _) $$ [Hfk Hfv Ha Hw Ha' Hw']
  · isplitl [Hfk]
    · iexact Hfk
    isplitl [Hfv]
    · iexact Hfv
    isplitl [Ha]
    · iexact Ha
    isplitl [Hw]
    · iexact Hw
    isplitl [Ha']
    · iexact Ha'
    iexact Hw'
  iintro ⟨Hfk, Hfv, Ha, Hw, Ha', Hw'⟩
  iapply (run_bind c)
  iapply (part17 Q K V κ c v2 v5 v8 v9 v32 v45 _ _ rfl) $$ [HO Hw' Ho Hs R8 R9]
  · iframe HR
    isplitl [HO]
    · iexact HO
    isplitl [Hw']
    · iexact Hw'
    isplitl [Ho]
    · iexact Ho
    isplitl [Hs]
    · iexact Hs
    isplitl [R8]
    · iexact R8
    iexact R9
  iintro ⟨HO, Hw', Ho, F8, F9, B10⟩
  iapply (run_bind c)
  iapply (part18 Q K V κ c v2 v5 v8 v9 v32 v33 v45) $$ [HO R10 B10 A8 Ho1]
  · iframe HR Hlev
    isplitl [HO]
    · iexact HO
    isplitl [R10 B10]
    · isplitl [R10]
      · iexact R10
      iexact B10
    isplitl [A8]
    · iexact A8
    iexact Ho1
  iintro ⟨HO, F10, Zr8, L8, Ho1⟩ %w2
  iapply (run_bind c)
  iapply (part19 Q K V κ c v5 v9 v33 _ _) $$ [HO A9 A10 F0 Ho2 Ho3]
  · iframe HR Hlev
    isplitl [HO]
    · iexact HO
    isplitl [A9]
    · iexact A9
    isplitl [A10]
    · iexact A10
    isplitl [F0]
    · iexact F0
    isplitl [Ho2]
    · iexact Ho2
    iexact Ho3
  iintro ⟨HO, ⟨Zr9, L9⟩, ⟨Zr10, L10⟩, ⟨Zs0, B0⟩, Ho2, Ho3⟩
  iapply (run_bind c)
  iapply (part20 Q K V κ c) $$ [HO F1 F2 F3 F4 F5]
  · iframe HR Hlev
    isplitl [HO]
    · iexact HO
    isplitl [F1]
    · iexact F1
    isplitl [F2]
    · iexact F2
    isplitl [F3]
    · iexact F3
    isplitl [F4]
    · iexact F4
    iexact F5
  iintro ⟨HO, ⟨Zs1, B1⟩, ⟨Zs2, B2⟩, ⟨Zs3, B3⟩, ⟨Zs4, B4⟩, ⟨Zs5, B5⟩⟩
  simp only [Prog.lift, Prog.bind_op, Prog.bind_ret, Prog.pure_eq_ret, Prog.bind_assoc]
  iapply (step_left Q K V κ 6 16 (by decide) c (credit_shape 6 rfl _)) $$ [HO F6]
  · iframe HR Hlev
    isplitl [HO]
    · iexact HO
    iexact F6
  iintro ⟨HO, Zs6, B6⟩
  iapply (step_left Q K V κ 7 16 (by decide) c (credit_shape 7 rfl _)) $$ [HO F7]
  · iframe HR Hlev
    isplitl [HO]
    · iexact HO
    iexact F7
  iintro ⟨HO, Zs7, B7⟩
  iapply (step_left Q K V κ 8 16 (by decide) c (credit_shape 8 rfl _)) $$ [HO F8]
  · iframe HR Hlev
    isplitl [HO]
    · iexact HO
    iexact F8
  iintro ⟨HO, Zs8, B8⟩
  iapply (step_left Q K V κ 9 16 (by decide) c (credit_shape 9 rfl _)) $$ [HO F9]
  · iframe HR Hlev
    isplitl [HO]
    · iexact HO
    iexact F9
  iintro ⟨HO, Zs9, B9⟩
  iapply (step_left Q K V κ 10 16 (by decide) c (credit_shape 10 rfl _)) $$ [HO F10]
  · iframe HR Hlev
    isplitl [HO]
    · iexact HO
    iexact F10
  iintro ⟨HO, Zs10, B10⟩
  iapply (run_ret c)
  iapply Hk
  ihave B0 := (show (back Q K V 0 c : sProp 𝕄) ⊢ ownsTc c (kqM c) fullShare.right.left (ownK K c) from .rfl) $$ B0
  ihave B1 := (show (back Q K V 1 c : sProp 𝕄) ⊢ ownsTc c (vqM c) fullShare.right.left (ownV V c) from .rfl) $$ B1
  ihave B2 := (show (back Q K V 2 c : sProp 𝕄) ⊢ ownsTc c (kqM c) fullShare.right.right (ownK K c) from .rfl) $$ B2
  ihave B3 := (show (back Q K V 3 c : sProp 𝕄) ⊢ ownsTc c (vqM c) fullShare.right.right (ownV V c) from .rfl) $$ B3
  ihave B4 := (show (back Q K V 4 c : sProp 𝕄) ⊢ ownsTc c (lkM.slice upper (fun _ => rfl)) fullShare.right (part upper (ownK K (left c))) from .rfl) $$ B4
  ihave B5 := (show (back Q K V 5 c : sProp 𝕄) ⊢ ownsTc c (lvM.slice upper (fun _ => rfl)) fullShare.right (part upper (ownV V (left c))) from .rfl) $$ B5
  ihave B6 := (show (back Q K V 6 c : sProp 𝕄) ⊢ ownsTc c (rkM.slice lower (fun _ => rfl)) fullShare.right (part lower (ownK K (right c))) from .rfl) $$ B6
  ihave B7 := (show (back Q K V 7 c : sProp 𝕄) ⊢ ownsTc c (rvM.slice lower (fun _ => rfl)) fullShare.right (part lower (ownV V (right c))) from .rfl) $$ B7
  ihave B8 := (show (back Q K V 8 c : sProp 𝕄) ⊢ ownsTc c (sM) fullShare.left (packed (pieces Q K V c)) from .rfl) $$ B8
  ihave B9 := (show (back Q K V 9 c : sProp 𝕄) ⊢ ownsTc c (sM) fullShare.right.left (packed (pieces Q K V c)) from .rfl) $$ B9
  ihave B10 := (show (back Q K V 10 c : sProp 𝕄) ⊢ ownsTc c (sM) fullShare.right.right (packed (pieces Q K V c)) from .rfl) $$ B10
  ihave HK := (owns_three_join c (kqM c) (ownK K c)) $$ [HK B0 B2]
  · isplitl [HK]
    · iexact HK
    isplitl [B0]
    · iexact B0
    iexact B2
  ihave HV := (owns_three_join c (vqM c) (ownV V c)) $$ [HV B1 B3]
  · isplitl [HV]
    · iexact HV
    isplitl [B1]
    · iexact B1
    iexact B3
  ihave HK := (show (own c (kqM c) (ownK K c) : sProp 𝕄) ⊢ own c (kqM c) ((kqM c).view.read (Elt F) (K c)) from .rfl) $$ HK
  ihave HV := (show (own c (vqM c) (ownV V c) : sProp 𝕄) ⊢ own c (vqM c) ((vqM c).view.read (Elt F) (V c)) from .rfl) $$ HV
  ispecialize WK $$ [HK]
  · iexact HK
  ispecialize WV $$ [HV]
  · iexact HV
  ihave Hlk := (owns_rows_join c lkM (ownK K (left c))) $$ [Hlk B4 Hlk']
  · isplitl [Hlk]
    · iexact Hlk
    isplitl [B4]
    · iexact B4
    iexact Hlk'
  ihave Hlv := (owns_rows_join c lvM (ownV V (left c))) $$ [Hlv B5 Hlv']
  · isplitl [Hlv]
    · iexact Hlv
    isplitl [B5]
    · iexact B5
    iexact Hlv'
  ihave Hrk := (owns_rows_join c rkM (ownK K (right c))) $$ [Hrk Hrk' B6]
  · isplitl [Hrk]
    · iexact Hrk
    isplitl [Hrk']
    · iexact Hrk'
    iexact B6
  ihave Hrv := (owns_rows_join c rvM (ownV V (right c))) $$ [Hrv Hrv' B7]
  · isplitl [Hrv]
    · iexact Hrv
    isplitl [Hrv']
    · iexact Hrv'
    iexact B7
  ihave Hs := (owns_three_join c sM (packed (pieces Q K V c))) $$ [B8 B9 B10]
  · isplitl [B8]
    · iexact B8
    isplitl [B9]
    · iexact B9
    iexact B10
  ihave Ha := (sums_join c _ _) $$ [Ha Ha']
  · isplitl [Ha]
    · iexact Ha
    iexact Ha'
  ihave Hw := (weights_join c _ _) $$ [Hw Hw']
  · isplitl [Hw]
    · iexact Hw
    iexact Hw'
  ihave Ho := (owns_columns_join c (written Q K V c)) $$ [Ho Ho1 Ho2 Ho3]
  · isplitl [Ho]
    · iexact Ho
    isplitl [Ho1]
    · iexact Ho1
    isplitl [Ho2]
    · iexact Ho2
    iexact Ho3
  unfold finish
  isplitl [HO]
  · iexact HO
  isplitl [Zb Zs0 Zs1 Zs2 Zs3 Zs4 Zs5 Zs6 Zs7 Zs8 Zs9 Zs10 Zr0 Zr1 Zr2 Zr3 Zr4 Zr5 Zr6 Zr7 Zr8 Zr9 Zr10 Hlk Hlv Hrk Hrv Hfk Hfv Hb Hs L8 L9 L10 Ha Hw]
  · isplitl [Zb]; · iexact Zb
    isplitl [Zs0 Zs1 Zs2 Zs3 Zs4 Zs5 Zs6 Zs7 Zs8 Zs9 Zs10]
    · isplitl [Zs0]
      · iexact Zs0
      isplitl [Zs1]
      · iexact Zs1
      isplitl [Zs2]
      · iexact Zs2
      isplitl [Zs3]
      · iexact Zs3
      isplitl [Zs4]
      · iexact Zs4
      isplitl [Zs5]
      · iexact Zs5
      isplitl [Zs6]
      · iexact Zs6
      isplitl [Zs7]
      · iexact Zs7
      isplitl [Zs8]
      · iexact Zs8
      isplitl [Zs9]
      · iexact Zs9
      iexact Zs10
    isplitl [Zr0 Zr1 Zr2 Zr3 Zr4 Zr5 Zr6 Zr7 Zr8 Zr9 Zr10]
    · isplitl [Zr0]
      · iexact Zr0
      isplitl [Zr1]
      · iexact Zr1
      isplitl [Zr2]
      · iexact Zr2
      isplitl [Zr3]
      · iexact Zr3
      isplitl [Zr4]
      · iexact Zr4
      isplitl [Zr5]
      · iexact Zr5
      isplitl [Zr6]
      · iexact Zr6
      isplitl [Zr7]
      · iexact Zr7
      isplitl [Zr8]
      · iexact Zr8
      isplitl [Zr9]
      · iexact Zr9
      iexact Zr10
    isplitl [Hlk]; · iexists _; iexact Hlk
    isplitl [Hlv]; · iexists _; iexact Hlv
    isplitl [Hrk]; · iexists _; iexact Hrk
    isplitl [Hrv]; · iexists _; iexact Hrv
    isplitl [Hfk]; · iexists _; iexact Hfk
    isplitl [Hfv]; · iexists _; iexact Hfv
    isplitl [Hb]; · iexists _; iexact Hb
    isplitl [Hs]; · iexists _; iexact Hs
    isplitl [L8]; · iexists _; iexact L8
    isplitl [L9]; · iexists _; iexact L9
    isplitl [L10]; · iexists _; iexact L10
    isplitl [Ha]; · iexact Ha
    iexact Hw
  isplitl [HQ]
  · iexact HQ
  isplitl [WK]
  · iexact WK
  isplitl [WV]
  · iexact WV
  iexact Ho

end Cert.KernelIdeal.Talk
-- ==== Proof.Entry.lean ====
/-
Entering and leaving the kernel on one device: what the launch keeps for it becomes what the kernel's body starts from,
and what the body ends with is what the launch wants back.
-/
module

public import proofs.«01_k».proof.Proof.Body
public import Idealize.ShloMosaic.Lib.Rounds.Family
public import Idealize.ShloMosaic.Lib.Pipeline.RegionTalk
public import Idealize.ShloMosaic.Harness.Basic

@[expose] public section

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Idealize.ShloMosaic.Smoke (bigSep_pair bigSep_unpair)

variable {F : FTy → Type} [FloatOps F] [∀ e, Nonempty (Elt F e)]

local notation "𝕄" => MT nD τ sig Unit (Elt F) ℕ UU ℕ

/-! ## The scratch buffers -/

/-- Every scratch buffer, holding anything. -/
def scratch (c : Dev nD) : sProp 𝕄 :=
  iprop((∃ X, own c lkM X) ∗ (∃ X, own c lvM X) ∗ (∃ X, own c rkM X) ∗ (∃ X, own c rvM X) ∗ (∃ X, own c fkM X) ∗ (∃ X, own c fvM X)
    ∗ (∃ X, own c bM X) ∗ (∃ X, own c sM X) ∗ (∃ X, own c xM X) ∗ (∃ X, own c zM X) ∗ (∃ X, own c dM X) ∗ (∃ X, own c aM X) ∗ (∃ X, own c wM X))

theorem any_whole (c : Dev nD) (b : Ref sig .tc) :
    (iprop(∃ f : Buf (Elt F) ((c : Thread nD τ).loc b), ((c : Thread nD τ).loc b) ↦{fullShare} f) : sProp 𝕄)
      = iprop(∃ X : b.ty.Contents (Elt F), owns (c : Thread nD τ) (Memref.whole b) fullShare X) := by
  simp only [owns_whole]

theorem scratch_eq (c : Dev nD) : (Pipeline.scopedRest spec0 c : sProp 𝕄) = scratch c := by
  rw [scopedRest0_eq]
  simp only [any_whole]
  rfl

theorem any_rows (c : Dev nD) (m : Memref sig .tc .vmem S2x256x128 .bf16) : (iprop(∃ X, own c m X) : sProp 𝕄)
    ⊢ iprop((∃ X, own c (m.slice upper (fun _ => rfl)) X) ∗ (∃ X, own c (m.slice lower (fun _ => rfl)) X)) := by
  iintro ⟨%X, H⟩
  ihave H := (owns_split c m fullShare upper lower (fun _ => rfl) (fun _ => rfl) rows_disjoint rows_cover X) $$ H
  icases H with ⟨H, H'⟩
  isplitl [H]
  · iexists _; iexact H
  · iexists _; iexact H'

/-! ## Families over the transfers and over the neighbours -/

theorem eleven (Φ : Fin 11 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10) :=
  bigSep_univ_eq_bigSepL [(0 : Fin 11), 1, 2, 3, 4, 5, 6, 7, 8, 9, 10] (by decide) (by decide) Φ

theorem five (Φ : Fin 5 → sProp 𝕄) : bigSep Finset.univ Φ = iprop(Φ 0 ∗ Φ 1 ∗ Φ 2 ∗ Φ 3 ∗ Φ 4) :=
  bigSep_univ_eq_bigSepL [(0 : Fin 5), 1, 2, 3, 4] (by decide) (by decide) Φ

/-! ## The counters of the transfers -/

/-- The kernel's own counters: eleven that tell a source is free again, eleven that tell data has landed. -/
def counters : Fin 2 × Fin 11 → SemLoc sig
  | (0, i) => .dma (sndS i)
  | (1, i) => .dma (rcvS i)

theorem counters_eq (c : Dev nD) : (Pipeline.ownSems0 counters c : sProp 𝕄)
    = iprop((bigSep Finset.univ fun i : Fin 11 => semVal (snd c i) 0) ∗ (bigSep Finset.univ fun i : Fin 11 => semVal (rcv c i) 0)) := by
  unfold Pipeline.ownSems0
  rw [bigSep_univ_prod, BI.bigSep_fin_two]
  rfl

/-! ## From the launch to the body -/

section Enter

variable (Q K V : Dev nD → S4x2x256x128.Idx → F .bf16) (c : Dev nD)

/-- The rights the launch deals to a device: its place at the barrier, the rights to open its counters, and one token
    for every rise it makes. -/
def rights (c : Dev nD) : sProp 𝕄 :=
  iprop(atPos ER (bar c) 0 ∅ 0
    ∗ ((bigSep Finset.univ fun i : Fin 11 => openTok ER (snd c i)) ∗ (bigSep Finset.univ fun i : Fin 11 => openTok ER (rcv c i)))
    ∗ (bigSep Finset.univ fun k : Fin 5 => dutyTok ER (bar (nbr k c)) 0 k)
    ∗ (bigSep Finset.univ fun i : Fin 11 => dutyTok ER (snd c i) 0 0) ∗ (bigSep Finset.univ fun i : Fin 11 => dutyTok ER (rcv (peer i c) i) 0 0))

/-- What the other devices owe a device. -/
def credits (c : Dev nD) : sProp 𝕄 :=
  iprop(cred (tallyAt (bar c) () 5) ∗ bigSep Finset.univ fun i : Fin 11 => cred (tallyAt (rcv c i) () (credit i)))

/-- What the launch keeps for a device until its kernel begins. -/
def kept (c : Dev nD) : sProp 𝕄 := iprop((∃ κ, records Q K V κ) ∗ rights c ∗ credits c)

/-- The same once its counters are open. -/
def opened (c : Dev nD) : sProp 𝕄 :=
  iprop((∃ κ, records Q K V κ) ∗ levAts L lv ∗ (atPos ER (bar c) 0 ∅ 0 ∗ cred (tallyAt (bar c) () 5))
    ∗ (bigSep Finset.univ fun k : Fin 5 => dutyTok ER (bar (nbr k c)) 0 k)
    ∗ (bigSep Finset.univ fun i : Fin 11 => primed i c) ∗ (bigSep Finset.univ fun i : Fin 11 => awaited i c)
    ∗ (bigSep Finset.univ fun i : Fin 11 => reached ER (rcv c i) 0))

/-- A device's counters of one kind open together. -/
theorem open_all (κ : GSem nD τ sig → ℕ) (g : Fin 11 → GSem nD τ sig) (hg : ∀ i, g i ∈ moveCells) :
    iprop(records Q K V κ ∗ (bigSep Finset.univ fun i => openTok ER (g i)) ∗ (bigSep Finset.univ fun i => semVal (g i) 0))
      ⊢ (|={Set.univ}=> iprop((bigSep Finset.univ fun i => atPos ER (g i) 0 ∅ 0) ∗ (bigSep Finset.univ fun i => reached ER (g i) 0)) : sProp 𝕄) := by
  iintro ⟨#HR, Ho, Hs⟩
  imod (Rounds.cells_open ER (rd Q K V) (Finset.univ : Finset (Fin 11)) g (fun i => κ (g i)) (fun _ _ => Set.mem_univ _)) $$ [Ho Hs] with H
  · isplitl [Ho]
    · iapply (bigSep_with_persistent (R := records Q K V κ) (Φ := fun i : Fin 11 => (openTok ER (g i) : sProp 𝕄)) fun i _ => by
        iintro ⟨#HR, H⟩
        isplitr; · iapply (inv_move Q K V κ (hg i)); iexact HR
        iexact H)
      isplitr; · iexact HR
      iexact Ho
    · iexact Hs
  imodintro
  iapply bigSep_unpair $$ H

theorem open_counters : iprop(kept Q K V c ∗ Pipeline.ownSems0 counters c ∗ levAts L lv) ⊢ (|={Set.univ}=> opened Q K V c : sProp 𝕄) := by
  rw [counters_eq]
  unfold kept rights credits opened
  iintro ⟨⟨⟨%κ, #HR⟩, ⟨Hat, ⟨Hos, Hor⟩, Htb, Hts, Htr⟩, Hcb, Hcr⟩, ⟨Hss, Hsr⟩, #Hlev⟩
  imod (open_all Q K V κ (fun i => snd c i) (fun i => snd_mem c i)) $$ [Hos Hss] with ⟨Has, Hrs⟩
  · isplitr; · iexact HR
    isplitl [Hos] <;> iassumption
  imod (open_all Q K V κ (fun i => rcv c i) (fun i => rcv_mem c i)) $$ [Hor Hsr] with ⟨Har, Hrr⟩
  · isplitr; · iexact HR
    isplitl [Hor] <;> iassumption
  imodintro
  isplitr; · iexists κ; iexact HR
  isplitr; · iexact Hlev
  isplitl [Hat Hcb]; · isplitl [Hat] <;> iassumption
  isplitl [Htb]; · iexact Htb
  isplitl [Hts Htr Has Hrs]
  · unfold primed
    iapply bigSep_pair
    isplitl [Hts Htr]
    · iapply bigSep_pair; isplitl [Hts] <;> iassumption
    · iapply bigSep_pair; isplitl [Has] <;> iassumption
  isplitl [Har Hcr]
  · unfold awaited
    iapply bigSep_pair; isplitl [Har] <;> iassumption
  iexact Hrr

/-- With the scratch buffers in hand the body can start. -/
theorem start_intro : iprop(opened Q K V c ∗ scratch c) ⊢ (iprop((∃ κ, records Q K V κ) ∗ levAts L lv ∗ start c) : sProp 𝕄) := by
  unfold opened scratch start
  simp only [gift, land, slot]
  rw [five, eleven, eleven, eleven]
  iintro ⟨⟨HR, Hlev, Hb, ⟨T0, T1, T2, T3, T4⟩, HP, HA, ⟨#R0, #R1, #R2, #R3, #R4, #R5, #R6, #R7, #R8, #R9, #R10⟩⟩,
    Hlk, Hlv, Hrk, Hrv, Hfk, Hfv, HbM, HsM, HxM, HzM, HdM, HaM, HwM⟩
  ihave Hfk := (any_rows c fkM) $$ Hfk
  icases Hfk with ⟨Hfk, Hfk'⟩
  ihave Hfv := (any_rows c fvM) $$ Hfv
  icases Hfv with ⟨Hfv, Hfv'⟩
  isplitl [HR]; · iexact HR
  isplitl [Hlev]; · iexact Hlev
  isplitl [T0 T1 T2 T3 T4 Hlk Hlv Hrk Hrv Hfk Hfk' Hfv Hfv' HxM HzM HdM]
  · isplitl [T0 Hlk Hlv Hfk Hfv]
    · isplitl [T0]; · iexact T0
      isplitl [Hlk]
      · isplitl [Hlk]; · iexact Hlk
        iexact R0
      isplitl [Hlv]
      · isplitl [Hlv]; · iexact Hlv
        iexact R1
      isplitl [Hfk]
      · isplitl [Hfk]; · iexact Hfk
        iexact R4
      isplitl [Hfv]; · iexact Hfv
      iexact R5
    isplitl [T1 Hrk Hrv Hfk' Hfv']
    · isplitl [T1]; · iexact T1
      isplitl [Hrk]
      · isplitl [Hrk]; · iexact Hrk
        iexact R2
      isplitl [Hrv]
      · isplitl [Hrv]; · iexact Hrv
        iexact R3
      isplitl [Hfk']
      · isplitl [Hfk']; · iexact Hfk'
        iexact R6
      isplitl [Hfv']; · iexact Hfv'
      iexact R7
    isplitl [T2 HxM]
    · isplitl [T2]; · iexact T2
      isplitl [HxM]; · iexact HxM
      iexact R8
    isplitl [T3 HzM]
    · isplitl [T3]; · iexact T3
      isplitl [HzM]; · iexact HzM
      iexact R9
    isplitl [T4]; · iexact T4
    isplitl [HdM]; · iexact HdM
    iexact R10
  isplitl [Hb]; · iexact Hb
  isplitl [HP]; · iexact HP
  isplitl [HA]; · iexact HA
  isplitl [HbM]; · iexact HbM
  isplitl [HsM]; · iexact HsM
  isplitl [HaM]; · iexact HaM
  iexact HwM

/-- What the body ends with: every counter at zero, every scratch buffer back. -/
theorem finish_elim : (finish c : sProp 𝕄) ⊢ iprop(scratch c ∗ Pipeline.ownSems0 counters c ∗ semVal (bar c) 0) := by
  rw [counters_eq, eleven, eleven]
  unfold finish scratch
  iintro ⟨Hb, Hs, Hr, Hm⟩
  isplitl [Hm]; · iexact Hm
  isplitr [Hb]
  · isplitl [Hs] <;> iassumption
  iexact Hb

end Enter

end Cert.KernelIdeal.Talk

end
-- ==== Proof.Region.lean ====
/-
The kernel call as a segment of the program: the arrays it reads and writes, what its body does to their blocks, and
what passes by it.
-/
module

public import proofs.«01_k».proof.Proof.Entry

@[expose] public section

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [∀ e, Nonempty (Elt F e)]

local notation "𝕄" => MT nD τ sig Unit (Elt F) ℕ UU ℕ

variable (m : (ℓ : Loc nD τ sig) → Buf (Elt F) ℓ)

/-! ## The blocks -/

/-- The queries, keys and values a device enters the kernel with. -/
def queries (c : Dev nD) : S4x2x256x128.Idx → F .bf16 := iblk m c 0 t0_0
def keys (c : Dev nD) : S4x2x256x128.Idx → F .bf16 := iblk m c 1 t0_0
def values (c : Dev nD) : S4x2x256x128.Idx → F .bf16 := iblk m c 2 t0_0

/-- The result block a device leaves the kernel with. -/
def outcome (c : Dev nD) : S2x256x512.Idx → F .f32 := joined c (written (queries m) (keys m) (values m) c)

/-- The body's invariant before its one point and after it. -/
def before (c : Dev nD) : sProp 𝕄 :=
  iprop(((∃ κ, records (queries m) (keys m) (values m) κ) ∗ levAts L lv ∗ start c) ∗ ∃ r, prngReg c r)
def after (c : Dev nD) : sProp 𝕄 := iprop(finish c ∗ ∃ r, prngReg c r)

/-- The proof data of the kernel call on device `c`. -/
def dat (c : Dev nD) : Dat τ (Elt F) Unit ℕ UU ℕ cfg0 c where
  A w := V m c (Pipeline.arrRef spec0 w)
  after w t := match w with
    | 0 => iblk m c 0 t
    | 1 => iblk m c 1 t
    | 2 => iblk m c 2 t
    | 3 => outcome m c
    | ⟨_ + 4, h⟩ => absurd h (Nat.not_lt.2 (Nat.le_add_left _ _))
  Φ t := if t.val = 0 then before m c else after c
  q _ := fullShare
  owed t := if t.val = 0 then debt 0 c else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat m

/-! ## What is owed around the body -/

theorem owesAt_intro (c : Dev nD) (t : Fin (cfg0.N + 1)) (n : ℕ) (h : (dat m c).owed t = debt n c) :
    (owing n c : sProp 𝕄) ⊢ (dat m c).owesAt () t := by
  unfold owing Dat.owesAt Pipeline.owesWithin Dat.bound
  rw [h]
  iintro ⟨%W, HO⟩
  iexists W
  isplitr; · ipureintro; exact fun _ _ => Or.inl trivial
  iexact HO

theorem owesAt_elim (c : Dev nD) (t : Fin (cfg0.N + 1)) (n : ℕ) (h : (dat m c).owed t = debt n c) :
    ((dat m c).owesAt () t : sProp 𝕄) ⊢ owing n c := by
  unfold owing Dat.owesAt Pipeline.owesWithin
  rw [h]
  iintro ⟨%W, -, HO⟩
  iexists W; iexact HO

/-! ## The body -/

theorem before_q (c : Dev nD) (d) : (dat m c).before 0 t0_0 d = queries m c := by
  unfold Dat.before; rw [if_pos (fetch0_0 t0_0)]; rfl
theorem before_k (c : Dev nD) (d) : (dat m c).before 1 t0_0 d = keys m c := by
  unfold Dat.before; rw [if_pos (fetch0_1 t0_0)]; rfl
theorem before_v (c : Dev nD) (d) : (dat m c).before 2 t0_0 d = values m c := by
  unfold Dat.before; rw [if_pos (fetch0_2 t0_0)]; rfl

theorem body_eq : bodyAt0 (F := F) t0_0 = (on (k0_part21 (F := F)) >>= fun _ => pure PUnit.unit) := by
  unfold bodyAt0
  rw [cc0_body_eq_skeleton]
  unfold cc0_body_skel
  rfl

theorem run_body (c : Dev nD) {R : PUnit → sProp 𝕄} :
    iprop(before m c ∗ owing 0 c ∗ own c qM (queries m c) ∗ own c kM (keys m c) ∗ own c vM (values m c) ∗ ∃ X, own c oM X)
      ⊢ iprop(((after c ∗ owing 16 c ∗ own c qM (queries m c) ∗ own c kM (keys m c) ∗ own c vM (values m c) ∗ own c oM (outcome m c)) -∗ R ⟨⟩)
        -∗ run c (bodyAt0 (F := F) t0_0) R) := by
  unfold before after outcome
  iintro ⟨⟨⟨⟨%κ, #HR⟩, #Hlev, Hst⟩, Hp⟩, HO, HQ, HK, HV, Ho⟩ Hk
  rw [body_eq]
  iapply (run_bind c (on (k0_part21 (F := F))) (fun _ => pure PUnit.unit))
  iapply (body_run (queries m) (keys m) (values m) κ c) $$ [Hst HO HQ HK HV Ho]
  · isplitr; · iexact HR
    isplitr; · iexact Hlev
    isplitl [HO]; · iexact HO
    isplitl [Hst]; · iexact Hst
    isplitl [HQ]; · iexact HQ
    isplitl [HK]; · iexact HK
    isplitl [HV]; · iexact HV
    iexact Ho
  iintro ⟨HO, Hf, H⟩
  iapply (run_ret c PUnit.unit)
  iapply Hk
  isplitl [Hf Hp]
  · isplitl [Hf]; · iexact Hf
    iexact Hp
  isplitl [HO]; · iexact HO
  iexact H

theorem body (c : Dev nD) : BodyObligation (dat m c) defs₀ 𝒱₀ () Set.univ := fun t => by
  obtain rfl := fin_N0 t
  rw [bigSep_W0, bigSep_W0]
  rw [show (dat m c).Φ t0_0.castSucc = before m c from rfl, show (dat m c).Φ t0_0.succ = after c from rfl]
  iintro ⟨HΦ, HO, ⟨%dq, HQ⟩, ⟨%dk, HK⟩, ⟨%dv, HV⟩, ⟨%dx, Ho⟩⟩
  ihave HO := (owesAt_elim m c _ 0 rfl) $$ HO
  ihave HQ := (show (owns (c : Thread nD τ) (st0_0 t0_0) fullShare ((dat m c).before 0 t0_0 dq) : sProp 𝕄) ⊢ own c qM (queries m c) from by
    rw [before_q]) $$ HQ
  ihave HK := (show (owns (c : Thread nD τ) (st0_1 t0_0) fullShare ((dat m c).before 1 t0_0 dk) : sProp 𝕄) ⊢ own c kM (keys m c) from by
    rw [before_k]) $$ HK
  ihave HV := (show (owns (c : Thread nD τ) (st0_2 t0_0) fullShare ((dat m c).before 2 t0_0 dv) : sProp 𝕄) ⊢ own c vM (values m c) from by
    rw [before_v]) $$ HV
  ihave Ho := (show (owns (c : Thread nD τ) (st0_3 t0_0) fullShare ((dat m c).before 3 t0_0 dx) : sProp 𝕄) ⊢ own c oM ((dat m c).before 3 t0_0 dx) from
    .rfl) $$ Ho
  iapply (run_body m c) $$ [HΦ HO HQ HK HV Ho]
  · isplitl [HΦ]; · iexact HΦ
    isplitl [HO]; · iexact HO
    isplitl [HQ]; · iexact HQ
    isplitl [HK]; · iexact HK
    isplitl [HV]; · iexact HV
    iexists _; iexact Ho
  iintro ⟨HΦ, HO, HQ, HK, HV, Ho⟩
  isplitl [HΦ]; · iexact HΦ
  isplitl [HO]; · iapply (owesAt_intro m c t0_0.succ 16 rfl); iexact HO
  isplitl [HQ]; · iexact HQ
  isplitl [HK]; · iexact HK
  isplitl [HV]; · iexact HV
  iexact Ho

/-! ## What the body may not wait on -/

theorem debt_level (c : Dev nD) (g : GSem nD τ sig) (u : Unit) (h : 0 < debt 0 c g u) : u ∈ L g ∧ 0 < lv g u := by
  obtain ⟨x, hx, rfl⟩ := mem_of_owe_pos h
  refine ⟨by unfold L; rw [if_pos (debts_tc c x hx)]; exact Finset.mem_singleton_self _, ?_⟩
  have hl : level x.1.2 ∈ levels := by rw [← levels_eq c]; exact List.mem_map_of_mem hx
  exact (show ∀ l ∈ levels, 0 < l by decide) _ hl

theorem owed_level (c : Dev nD) (t : Fin (cfg0.N + 1)) (g : GSem nD τ sig) (u : Unit) (h : 0 < (dat m c).owed t g u) :
    u ∈ L g ∧ 0 < lv g u := by
  have e : (dat m c).owed t = if t.val = 0 then debt 0 c else 0 := rfl
  rw [e] at h
  split at h
  · exact debt_level c g u h
  · exact absurd h (Nat.lt_irrefl 0)

/-- The counters of the block copies come first in the order of waiting. -/
theorem staging_level (c : Dev nD) (w : Fin cfg0.W) (s : Fin (cfg0.win w).nbuf) : lv ((c : Thread nD τ), .dma ((cfg0.win w).sem s)) () ≤ 0 := by
  revert s; revert w
  exact (by decide : ∀ (w : Fin 4) (s : Fin (spec0 w).nbuf), level (.dma ((spec0 w).sem s)) ≤ 0)

/-! ## The segment -/

/-- The buffers of the program outside the kernel. -/
def bufs : Finset (DevRef τ sig) := (StableHlo.tcRefs τ sig).filter fun b => ¬ b.isScoped
/-- The arrays the kernel is handed, and the rest. -/
abbrev arrays : Finset (DevRef τ sig) := Pipeline.arrRefs (τ := τ) spec0
abbrev others : Finset (DevRef τ sig) := bufs \ arrays

/-- What the buffers hold after the kernel: as before it but for the result array. -/
def final (c : Dev nD) : Valuation τ sig (Elt F) :=
  Function.update (V0 m c) (Proc.devRef .tc main_v7) ((dat m c).arrAt 3 cfg0.N)

theorem final_ne (c : Dev nD) {b : DevRef τ sig} (h : b ≠ Proc.devRef .tc main_v7) : final m c b = V0 m c b :=
  Function.update_of_ne h _ _

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem arrays_after (c : Dev nD) (w : Fin 4) : (dat m c).arrAt w cfg0.N = final m c (Proc.devRef .tc (Pipeline.arrRef spec0 w)) := by
  fin_cases w
  · exact ((dat m c).arrAt_in 0 rfl _).trans (final_ne m c (b := Proc.devRef .tc (Pipeline.arrRef spec0 0)) (by decide)).symm
  · exact ((dat m c).arrAt_in 1 rfl _).trans (final_ne m c (b := Proc.devRef .tc (Pipeline.arrRef spec0 1)) (by decide)).symm
  · exact ((dat m c).arrAt_in 2 rfl _).trans (final_ne m c (b := Proc.devRef .tc (Pipeline.arrRef spec0 2)) (by decide)).symm
  · exact (Function.update_self (f := V0 m c) _ _).symm

theorem rest_after (c : Dev nD) : ∀ b ∈ others \ ∅, final m c b = V0 m c b := fun b hb =>
  final_ne m c fun h => (Finset.mem_sdiff.mp (Finset.mem_sdiff.mp hb).1).2 (by rw [h]; decide)

theorem enter (c : Dev nD) : iprop(Pipeline.scopedRest (Pipeline.pin (pcfgs (F := F)) adm 0).spec c ∗ (∃ r, prngReg c r)
      ∗ StableHlo.held (c.tc : Thread nD τ) ∅ (V0 m c) ∗ opened (queries m) (keys m) (values m) c)
    ⊢ ((pdats m 0 c).Φ 0 : sProp 𝕄) := by
  rw [show (pdats m 0 c).Φ 0 = before m c from rfl, show (Pipeline.scopedRest (Pipeline.pin (pcfgs (F := F)) adm 0).spec c : sProp 𝕄) = scratch c from scratch_eq c]
  unfold before
  iintro ⟨Hs, Hp, -, Hx⟩
  isplitr [Hp]
  · iapply (start_intro (queries m) (keys m) (values m) c)
    isplitl [Hx] <;> iassumption
  · iexact Hp

theorem leave (c : Dev nD) : ((pdats m 0 c).Φ (Fin.last (Pipeline.pin (pcfgs (F := F)) adm 0).N) : sProp 𝕄)
    ⊢ iprop(Pipeline.scopedRest (Pipeline.pin (pcfgs (F := F)) adm 0).spec c ∗ (∃ r, prngReg c r)
      ∗ StableHlo.held (c.tc : Thread nD τ) ∅ (final m c) ∗ Pipeline.ownSems0 counters c ∗ semVal (bar c) 0) := by
  rw [show (pdats m 0 c).Φ (Fin.last _) = after c from rfl, show (Pipeline.scopedRest (Pipeline.pin (pcfgs (F := F)) adm 0).spec c : sProp 𝕄) = scratch c from scratch_eq c]
  unfold after
  iintro ⟨Hf, Hp⟩
  ihave Hf := (finish_elim c) $$ Hf
  icases Hf with ⟨Hs, Hc, Hb⟩
  isplitl [Hs]; · iexact Hs
  isplitl [Hp]; · iexact Hp
  isplitr
  · unfold StableHlo.held; rw [BI.bigSep_empty]; iempintro
  isplitl [Hc] <;> iassumption

set_option backward.isDefEq.respectTransparency.types false in
def region : Pipeline.RegionSeg (pcfgs (F := F)) adm (pdats m) () defs₀ 𝒱₀ L lv 0 :=
  Pipeline.RegionSeg.ofTalk (pcfgs (F := F)) adm (pdats m) () defs₀ 𝒱₀ L lv 0 counters (by decide : Pipeline.OwnSemFacts spec0 counters)
    ∅ others (Finset.empty_subset _) kit rfl (fun c => (body m c).loose)
    (fun _ => 0) (debt 0) (fun c => (zero_add _).symm) (fun c => rfl) (fun _ => rfl) (fun c w => by unfold Dat.share; split <;> rfl)
    (V0 m) (final m) (rest_after m)
    (kept (queries m) (keys m) (values m)) (fun c => semVal (bar c) 0) (opened (queries m) (keys m) (values m)) (fun c => semVal (bar c) 0)
    (open_counters (queries m) (keys m) (values m)) (enter m) (leave m)
    (fun c => by iintro H; imodintro; iexact H)
    (fun _ => 0)
    ⟨fun c w s => by rw [L_tc]; exact Finset.mem_singleton_self _, fun c w s => staging_level c w s, fun c t g i h => owed_level m c t g i h⟩
    (fun _ => iprop(emp))
    (fun _ _ => rfl) (arrays_after m)

end Cert.KernelIdeal.Talk

end
-- ==== Proof.Deal.lean ====
/-
What the launch deals out: every counter put under the schedule, every token handed to the device that spends it, and
the credit each counter starts with.
-/
module

public import proofs.«01_k».proof.Proof.Region

@[expose] public section

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Smoke (bigSep_pair bigSep_unpair)

variable {F : FTy → Type} [FloatOps F] [∀ e, Nonempty (Elt F e)]

local notation "𝕄" => MT nD τ sig Unit (Elt F) ℕ UU ℕ

/-! ## Telling counters apart -/

theorem dev_of_cell {c d : Dev nD} {s t : SemLoc sig} (h : (((c : Thread nD τ), s) : GSem nD τ sig) = ((d : Thread nD τ), t)) : c = d ∧ s = t :=
  ⟨congrArg (fun g : GSem nD τ sig => g.1.1) h, congrArg Prod.snd h⟩

theorem sndS_inj {i j : Fin 11} (h : (SemLoc.dma (sndS i) : SemLoc sig) = .dma (sndS j)) : i = j := by
  revert i j; decide
theorem rcvS_inj {i j : Fin 11} (h : (SemLoc.dma (rcvS i) : SemLoc sig) = .dma (rcvS j)) : i = j := by
  revert i j; decide
theorem snd_ne_rcv (i j : Fin 11) : (SemLoc.dma (sndS i) : SemLoc sig) ≠ .dma (rcvS j) := by
  revert i j; decide

theorem cells_disjoint : Disjoint barCells moveCells := by
  rw [Finset.disjoint_left]
  intro g h h'
  obtain ⟨c, -, rfl⟩ := Finset.mem_image.mp h
  rcases Finset.mem_union.mp h' with h' | h' <;> obtain ⟨x, -, e⟩ := Finset.mem_image.mp h' <;> cases (dev_of_cell e).2

/-! ## Families over the counters, by device -/

theorem over_bars (Φ : GSem nD τ sig → sProp 𝕄) : bigSep barCells Φ = bigSep Finset.univ fun c : Dev nD => Φ (bar c) :=
  bigSep_image_of_injOn (fun _ _ _ _ h => (dev_of_cell h).1) Φ

theorem over_moves (Φ : GSem nD τ sig → sProp 𝕄) : bigSep moveCells Φ
    = bigSep Finset.univ fun c : Dev nD => iprop((bigSep Finset.univ fun i : Fin 11 => Φ (snd c i)) ∗ (bigSep Finset.univ fun i : Fin 11 => Φ (rcv c i))) := by
  unfold moveCells
  rw [bigSep_union (by
      rw [Finset.disjoint_left]
      intro g h h'
      obtain ⟨x, -, rfl⟩ := Finset.mem_image.mp h
      obtain ⟨y, -, e⟩ := Finset.mem_image.mp h'
      exact snd_ne_rcv x.2 y.2 (dev_of_cell e).2.symm),
    bigSep_image_of_injOn (fun x _ y _ h => Prod.ext (dev_of_cell h).1 (sndS_inj (dev_of_cell h).2)) Φ,
    bigSep_image_of_injOn (fun x _ y _ h => Prod.ext (dev_of_cell h).1 (rcvS_inj (dev_of_cell h).2)) Φ,
    bigSep_univ_prod, bigSep_univ_prod]
  exact (bigSep_sep' _ _ _).symm

/-! ## The tokens -/

/-- One token for every rise: five on each barrier counter, one on each counter of a transfer. -/
def token : Dev nD × (Fin 5 ⊕ Fin 11 ⊕ Fin 11) → GSem nD τ sig × ℕ × Fin 5
  | (c, .inl k) => (bar c, 0, k)
  | (c, .inr (.inl i)) => (snd c i, 0, 0)
  | (c, .inr (.inr i)) => (rcv c i, 0, 0)

theorem token_inj : Function.Injective token := by
  rintro ⟨c, k | i | i⟩ ⟨d, l | j | j⟩ h
  · have h1 := dev_of_cell (congrArg Prod.fst h)
    have h2 : k = l := congrArg (fun x : GSem nD τ sig × ℕ × Fin 5 => x.2.2) h
    rw [h1.1, h2]
  · cases (dev_of_cell (congrArg Prod.fst h)).2
  · cases (dev_of_cell (congrArg Prod.fst h)).2
  · cases (dev_of_cell (congrArg Prod.fst h)).2
  · have h1 := dev_of_cell (congrArg Prod.fst h)
    rw [h1.1, sndS_inj h1.2]
  · exact absurd (dev_of_cell (congrArg Prod.fst h)).2 (snd_ne_rcv i j)
  · cases (dev_of_cell (congrArg Prod.fst h)).2
  · exact absurd (dev_of_cell (congrArg Prod.fst h)).2.symm (snd_ne_rcv j i)
  · have h1 := dev_of_cell (congrArg Prod.fst h)
    rw [h1.1, rcvS_inj h1.2]

def tokens : Finset (GSem nD τ sig × ℕ × Fin 5) := Finset.univ.image token

/-- Renaming the devices differently for each member of a family. -/
def shift {n : ℕ} (σ : Fin n → Equiv.Perm (Dev nD)) : Dev nD × Fin n ≃ Dev nD × Fin n where
  toFun x := (σ x.2 x.1, x.2)
  invFun x := ((σ x.2).symm x.1, x.2)
  left_inv x := by simp
  right_inv x := by simp

theorem renamed {n : ℕ} (σ : Fin n → Equiv.Perm (Dev nD)) (Φ : Dev nD → Fin n → sProp 𝕄) :
    (bigSep Finset.univ fun c => bigSep Finset.univ fun k => Φ c k) = bigSep Finset.univ fun c => bigSep Finset.univ fun k => Φ (σ k c) k := by
  rw [← bigSep_univ_prod fun x : Dev nD × Fin n => Φ x.1 x.2, bigSep_univ_equiv (shift σ), bigSep_univ_prod]
  rfl

/-- Each token handed to the device that makes the rise. -/
theorem tokens_dealt : bigSep tokens (fun x => (dutyTok ER x.1 x.2.1 x.2.2 : sProp 𝕄))
    = bigSep Finset.univ fun c : Dev nD => iprop((bigSep Finset.univ fun k : Fin 5 => dutyTok ER (bar (nbr k c)) 0 k)
      ∗ (bigSep Finset.univ fun i : Fin 11 => dutyTok ER (snd c i) 0 0) ∗ (bigSep Finset.univ fun i : Fin 11 => dutyTok ER (rcv (peer i c) i) 0 0)) := by
  unfold tokens
  rw [bigSep_image_of_injOn (fun _ _ _ _ h => token_inj h), bigSep_univ_prod]
  rw [bigSep_congr (Ψ := fun c : Dev nD => iprop((bigSep Finset.univ fun k : Fin 5 => dutyTok ER (bar c) 0 k)
      ∗ (bigSep Finset.univ fun i : Fin 11 => dutyTok ER (snd c i) 0 0) ∗ (bigSep Finset.univ fun i : Fin 11 => dutyTok ER (rcv c i) 0 0)))
      fun c _ => by rw [BI.bigSep_univ_sum, BI.bigSep_univ_sum]; rfl]
  rw [bigSep_sep', bigSep_sep', bigSep_sep', bigSep_sep',
    renamed (fun k : Fin 5 => nbr k) (fun c k => (dutyTok ER (bar c) 0 k : sProp 𝕄)),
    renamed (fun i : Fin 11 => nbr (way i)) (fun c i => (dutyTok ER (rcv c i) 0 0 : sProp 𝕄))]

/-! ## The credit -/

theorem owe_apply (xs : List (GSem nD τ sig × ℕ)) (g : GSem nD τ sig) : owe xs g () = (xs.map fun x => if g = x.1 then x.2 else 0).sum := by
  induction xs with
  | nil => rfl
  | cons x xs ih =>
    rw [List.map_cons, List.sum_cons, ← ih, Nat.add_comm, owe_cons, Pi.add_apply, Finsupp.add_apply, tallyAt_apply]
    simp only [and_true]

theorem bar_eq (c d : Dev nD) : (bar c = bar d) = (c = d) := propext ⟨fun h => (dev_of_cell h).1, fun h => by rw [h]⟩
theorem bar_rcv (c d : Dev nD) (i : Fin 11) : (bar c = rcv d i) = False := eq_false fun h => by cases (dev_of_cell h).2
theorem rcv_bar (c d : Dev nD) (i : Fin 11) : (rcv c i = bar d) = False := eq_false fun h => by cases (dev_of_cell h).2
theorem rcv_eq (c d : Dev nD) (i j : Fin 11) : (rcv c i = rcv d j) = (c = d ∧ i = j) :=
  propext ⟨fun h => ⟨(dev_of_cell h).1, rcvS_inj (dev_of_cell h).2⟩, fun h => by rw [h.1, h.2]⟩

theorem sum_renamed (σ : Equiv.Perm (Dev nD)) (c : Dev nD) (n : ℕ) : ∑ d : Dev nD, (if c = σ d then n else 0) = n := by
  rw [Equiv.sum_comp σ (fun d => if c = d then n else 0), Finset.sum_ite_eq, if_pos (Finset.mem_univ _)]

theorem owed_bar (c : Dev nD) : ∑ d : Dev nD, debt 0 d (bar c) () = 5 := by
  have h (d : Dev nD) : debt 0 d (bar c) () = (if c = nbr 0 d then 1 else 0) + (if c = nbr 1 d then 1 else 0) + (if c = nbr 2 d then 1 else 0)
      + (if c = nbr 3 d then 1 else 0) + (if c = nbr 4 d then 1 else 0) := by
    rw [debt, List.drop_zero, owe_apply]
    simp only [debts, List.map_cons, List.map_nil, List.sum_cons, List.sum_nil, bar_eq, bar_rcv, if_false, Nat.add_zero, Nat.add_assoc]
  rw [Finset.sum_congr rfl fun d _ => h d]
  simp only [Finset.sum_add_distrib, sum_renamed]

theorem owed_rcv (c : Dev nD) (i : Fin 11) : ∑ d : Dev nD, debt 0 d (rcv c i) () = credit i := by
  have h (d : Dev nD) : debt 0 d (rcv c i) () = if c = nbr (way i) d then credit i else 0 := by
    rw [debt, List.drop_zero, owe_apply]
    simp only [debts, List.map_cons, List.map_nil, List.sum_cons, List.sum_nil, rcv_eq, rcv_bar, if_false, Nat.add_zero, Nat.zero_add]
    fin_cases i <;> simp [peer]
  rw [Finset.sum_congr rfl fun d _ => h d, sum_renamed]

theorem launch_bar (c : Dev nD) :
    tallyOn (bar c) (launchCredit (Pipeline.owing (debt 0)) 0 (bar c)) = (tallyAt (bar c) () 5 : CellTallies nD τ sig Unit) := by
  unfold tallyAt
  refine congrArg _ (Finsupp.ext fun u => ?_)
  cases u
  rw [Pipeline.launchCredit_owing, Finsupp.single_eq_same, owed_bar]

theorem launch_rcv (c : Dev nD) (i : Fin 11) :
    tallyOn (rcv c i) (launchCredit (Pipeline.owing (debt 0)) 0 (rcv c i)) = (tallyAt (rcv c i) () (credit i) : CellTallies nD τ sig Unit) := by
  unfold tallyAt
  refine congrArg _ (Finsupp.ext fun u => ?_)
  cases u
  rw [Pipeline.launchCredit_owing, Finsupp.single_eq_same, owed_rcv]

/-- A device starts with the credit of its barrier counter and of the counters data lands on. -/
theorem credits_intro (c : Dev nD) : (Pipeline.launchCred (debt 0) c : sProp 𝕄) ⊢ credits c := by
  unfold Pipeline.launchCred credits
  rw [bigSep_univ_at _ (SemLoc.reg barS), launch_bar]
  refine sep_mono_right ?_
  refine (BI.bigSep_subset (t := Finset.univ.image fun i : Fin 11 => (SemLoc.dma (rcvS i) : SemLoc sig)) fun s hs => ?_).trans ?_
  · obtain ⟨i, -, rfl⟩ := Finset.mem_image.mp hs
    exact Finset.mem_erase.mpr ⟨fun h => (by cases h), Finset.mem_univ _⟩
  · rw [bigSep_image_of_injOn fun _ _ _ _ h => rcvS_inj h]
    exact Entails.of_eq (bigSep_congr fun i _ => by rw [launch_rcv])

end Cert.KernelIdeal.Talk

end
-- ==== Proof.Launch.lean ====
/-
The run of the whole program on the mesh: from any memory with every counter at zero it ends, the arguments are
untouched, the result array holds what the kernel left of it, and every counter is at zero again.
-/
module

public import proofs.«01_k».proof.Proof.Deal

@[expose] public section

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Smoke (bigSep_pair bigSep_unpair)

variable {F : FTy → Type} [FloatOps F] [∀ e, Nonempty (Elt F e)]

local notation "𝕄" => MT nD τ sig Unit (Elt F) ℕ UU ℕ

variable (m : (ℓ : Loc nD τ sig) → Buf (Elt F) ℓ) (ρ : Dev nD → PrngReg)

/-! ## The three segments -/

/-- What rides beside the buffers up to the kernel, and after it. -/
def riding (c : Dev nD) : sProp 𝕄 := iprop(kept (queries m) (keys m) (values m) c ∗ (∃ r, prngReg c r) ∗ owing 0 c)
def ridden (c : Dev nD) : sProp 𝕄 := iprop(semVal (bar c) 0 ∗ ∃ W, owes (c : Thread nD τ) (0 : CellTallies nD τ sig Unit) W)

abbrev launched (c : Dev nD) : Valuation τ sig (Elt F) := fun b => m (c, b)

theorem sub_bufs (ops : List (HloOp τ sig (Elt F))) (h : ops.Forall fun op => op.bufs ⊆ StableHlo.tcRefs τ sig) : ∀ op ∈ ops, op.bufs ⊆ bufs :=
  fun op hop => Pipeline.sub_ucRefs op (List.forall_iff_forall_mem.mp h op hop)

def seg0 : Pipeline.HostSeg (Name := ℕ) (U := UU) (pcfgs (F := F)) defs₀ 𝒱₀ L lv :=
  Pipeline.HostSeg.ofOps _ _ _ _ _ bufs hostOps0 (sub_bufs _ hostOps0_sub) (List.forall_iff_forall_mem.mp hostOps0_fresh) (launched m) (riding m)
def seg1 : Pipeline.HostSeg (Name := ℕ) (U := UU) (pcfgs (F := F)) defs₀ 𝒱₀ L lv :=
  Pipeline.HostSeg.ofOps _ _ _ _ _ bufs hostOps1 (sub_bufs _ hostOps1_sub) (List.forall_iff_forall_mem.mp hostOps1_fresh) (final m) ridden

def segs : List (Pipeline.Seg (pcfgs (F := F)) adm (pdats m) () defs₀ 𝒱₀ L lv) := [.host (seg0 m), .region (region m), .host (seg1 m)]

theorem arrays_sub : arrays ⊆ bufs := by decide

theorem region_pre (c : Dev nD) : iprop(StableHlo.held (c : Thread nD τ) bufs (V0 m c) ∗ riding m c) ⊢ (region m).pre c := by
  show _ ⊢ iprop(StableHlo.held (c.tc : Thread nD τ) arrays (V0 m c) ∗ (∃ r, prngReg c r)
    ∗ (StableHlo.held (c.tc : Thread nD τ) others (V0 m c) ∗ emp) ∗ kept (queries m) (keys m) (values m) c ∗ ∃ Wd, owes (c : Thread nD τ) (0 + debt 0 c) Wd)
  rw [StableHlo.held_sub_split (c : Thread nD τ) arrays_sub (V0 m c), zero_add]
  unfold riding owing
  iintro ⟨⟨Ha, Hr⟩, HK, Hp, HO⟩
  isplitl [Ha]; · iexact Ha
  isplitl [Hp]; · iexact Hp
  isplitl [Hr]
  · isplitl [Hr]; · iexact Hr
    iempintro
  isplitl [HK]; · iexact HK
  iexact HO

theorem region_post (c : Dev nD) : (region m).post c ⊢ iprop(StableHlo.held (c : Thread nD τ) bufs (final m c) ∗ ridden c) := by
  show iprop(StableHlo.held (c.tc : Thread nD τ) arrays (final m c) ∗ (∃ r, prngReg c r)
    ∗ (StableHlo.held (c.tc : Thread nD τ) others (final m c) ∗ emp) ∗ semVal (bar c) 0 ∗ ∃ Wd, owes (c : Thread nD τ) (0 : CellTallies nD τ sig Unit) Wd) ⊢ _
  rw [StableHlo.held_sub_split (c : Thread nD τ) arrays_sub (final m c)]
  unfold ridden
  iintro ⟨Ha, -, ⟨Hr, -⟩, Hb, HO⟩
  isplitl [Ha Hr]
  · isplitl [Ha] <;> iassumption
  isplitl [Hb] <;> iassumption

/-! ## The launch -/

/-- The ghost state of the launch: the block copies' part and the protocol's. -/
def u₀ : UU :=
  (initOf (Pipeline.cells (Pipeline.pin (pcfgs (F := F)) adm) cellOf_inj) (Pipeline.launchToks (Pipeline.pin (pcfgs (F := F)) adm) cellOf_inj),
    launchOf barCells moveCells tokens)

/-- The protocol's part is handed over whole, on the first device. -/
abbrev protocol : sProp 𝕄 := BI.own (ER (launchOf barCells moveCells tokens))
def parked (c : Dev nD) : sProp 𝕄 := if c = 0 then protocol else iprop(emp)

theorem parked_all : bigSep Finset.univ (parked (F := F)) = protocol := by
  rw [bigSep_univ_at _ (0 : Dev nD), bigSep_congr (s := Finset.univ.erase (0 : Dev nD)) (Ψ := fun _ => (BI.emp : sProp 𝕄))
      fun c hc => by unfold parked; rw [if_neg (Finset.ne_of_mem_erase hc)]; rfl, BI.bigSep_emp_const]
  unfold parked
  rw [if_pos rfl]
  exact BI.equiv_iff.mp sep_emp

theorem unscoped_bufs (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

theorem unscoped_sems (c : Dev nD) : (unscopedSems0 c : sProp 𝕄) = semVal (bar c) 0 := by
  unfold unscopedSems0
  rw [show (Finset.univ.filter fun sm : SemLoc sig => ¬ sm.isScoped .tc) = {SemLoc.reg barS} from by decide, BI.bigSep_singleton]

/-- What a device enters the program with. -/
abbrev T₀ (c : Dev nD) : sProp 𝕄 := iprop(StableHlo.held (c : Thread nD τ) bufs (launched m c) ∗ riding m c)
/-- What it leaves the program with. -/
abbrev Tₙ (c : Dev nD) : sProp 𝕄 := iprop(StableHlo.held (c : Thread nD τ) bufs (StableHlo.after hostOps1 (final m c)) ∗ semVal (bar c) 0)

/-- What a device has of its own at the start. -/
def luggage (c : Dev nD) : sProp 𝕄 :=
  iprop(StableHlo.held (c : Thread nD τ) bufs (launched m c) ∗ credits c ∗ owing 0 c ∗ ∃ r, prngReg c r)

theorem T₀_intro (κ : GSem nD τ sig → ℕ) (c : Dev nD) : iprop(records (queries m) (keys m) (values m) κ ∗ (rights c ∗ luggage m c)) ⊢ T₀ m c := by
  unfold luggage T₀ riding kept
  iintro ⟨#HR, Hl, Hh, Hc, HO, Hp⟩
  isplitl [Hh]; · iexact Hh
  isplitl [Hl Hc]
  · isplitr; · iexists κ; iexact HR
    isplitl [Hl] <;> iassumption
  isplitl [Hp] <;> iassumption

/-- What a device holds when the program starts, sorted. -/
theorem unpack (c : Dev nD) : iprop(unscopedBufs c (fun b => m ((c : Thread nD τ).loc b)) ∗ unscopedSems0 c
      ∗ owes (c : Thread nD τ) (debt 0 c) ∅ ∗ Pipeline.launchCred (debt 0) c ∗ prngReg c (ρ c) ∗ parked c)
    ⊢ (iprop(luggage m c ∗ semVal (bar c) 0 ∗ parked c) : sProp 𝕄) := by
  rw [show unscopedBufs c (fun b => m ((c : Thread nD τ).loc b)) = StableHlo.held (c : Thread nD τ) bufs (launched m c) from unscoped_bufs c (launched m c),
    unscoped_sems]
  unfold luggage owing
  iintro ⟨Hh, Hb, HO, Hcr, Hp, HG⟩
  ihave Hc := (credits_intro (F := F) c) $$ Hcr
  isplitl [Hh Hc HO Hp]
  · isplitl [Hh]; · iexact Hh
    isplitl [Hc]; · iexact Hc
    isplitl [HO]; · iexists ∅; iexact HO
    iexists (ρ c); iexact Hp
  isplitl [Hb] <;> iassumption

/-- A separate share of each of three kinds for every device is one share of all three for every device. -/
theorem three (A B C : Dev nD → sProp 𝕄) : iprop((bigSep Finset.univ fun c => A c) ∗ (bigSep Finset.univ fun c => B c) ∗ (bigSep Finset.univ fun c => C c))
    ⊢ (bigSep Finset.univ fun c => iprop(A c ∗ B c ∗ C c) : sProp 𝕄) := by
  rw [bigSep_sep', bigSep_sep']

/-- What the schedule hands out at the start, sorted by device. -/
theorem dealt : iprop((bigSep barCells fun g => atPos ER g 0 ∅ 0) ∗ (bigSep moveCells fun g => openTok ER g)
      ∗ bigSep tokens fun x => dutyTok ER x.1 x.2.1 x.2.2)
    ⊢ (bigSep Finset.univ fun c : Dev nD => rights c : sProp 𝕄) := by
  rw [over_bars, over_moves, tokens_dealt]
  unfold rights
  exact three _ _ _

/-- Every counter put under the schedule, and every right dealt. -/
theorem fund (Q K V : Dev nD → S4x2x256x128.Idx → F .bf16) : iprop((bigSep Finset.univ fun c : Dev nD => semVal (bar c) 0) ∗ protocol)
    ⊢ (|={Set.univ}=> iprop(∃ κ, records Q K V κ ∗ bigSep Finset.univ fun c : Dev nD => rights c) : sProp 𝕄) := by
  iintro ⟨Hv, Hu⟩
  ihave Hv := (Entails.of_eq (over_bars (F := F) fun g => semVal g 0).symm) $$ Hv
  imod (Rounds.fund_launch ER (rd Q K V) cells_disjoint (fun g _ h => h) tokens) $$ [Hv Hu] with ⟨%κ, -, #Hinv, #Hr, Hat, Hopen, Htok⟩
  · isplitl [Hv] <;> iassumption
  ihave Hinv := (show (bigSep (barCells ∪ moveCells) fun g => (cellInv ER (rd Q K V) (κ g) g : sProp 𝕄))
      ⊢ iprop((bigSep barCells fun g => cellInv ER (rd Q K V) (κ g) g)
        ∗ (bigSep moveCells fun g => cellInv ER (rd Q K V) (κ g) g)) from Entails.of_eq (BI.bigSep_union cells_disjoint)) $$ Hinv
  icases Hinv with ⟨#Hib, #Him⟩
  imodintro
  iexists κ
  isplitr
  · unfold records
    isplitr; · iexact Hib
    isplitr; · iexact Him
    iexact Hr
  iapply dealt
  isplitl [Hat]; · iexact Hat
  isplitl [Hopen] <;> iassumption

theorem init :
    iprop((bigSep Finset.univ fun c : Dev nD => iprop(unscopedBufs c (fun b => m ((c : Thread nD τ).loc b)) ∗ unscopedSems0 c
          ∗ owes (c : Thread nD τ) (debt 0 c) ∅ ∗ Pipeline.launchCred (debt 0) c ∗ prngReg c (ρ c) ∗ parked c)) ∗ levAts L lv)
      ⊢ (|={Set.univ}=> bigSep Finset.univ (T₀ m) : sProp 𝕄) := by
  iintro ⟨H, -⟩
  ihave H := (show (bigSep Finset.univ fun c : Dev nD => iprop(unscopedBufs c (fun b => m ((c : Thread nD τ).loc b)) ∗ unscopedSems0 c
          ∗ owes (c : Thread nD τ) (debt 0 c) ∅ ∗ Pipeline.launchCred (debt 0) c ∗ prngReg c (ρ c) ∗ parked c))
      ⊢ (bigSep Finset.univ fun c : Dev nD => iprop(luggage m c ∗ semVal (bar c) 0 ∗ parked c) : sProp 𝕄) from bigSep_mono fun c _ => unpack m ρ c) $$ H
  ihave H := bigSep_unpair $$ H
  icases H with ⟨Hl, H⟩
  ihave H := bigSep_unpair $$ H
  icases H with ⟨Hv, HG⟩
  ihave Hu := (Entails.of_eq (parked_all (F := F))) $$ HG
  imod (fund (queries m) (keys m) (values m)) $$ [Hv Hu] with ⟨%κ, #HR, Hr⟩
  · isplitl [Hv] <;> iassumption
  imodintro
  iapply (bigSep_with_persistent (R := records (queries m) (keys m) (values m) κ) (Φ := fun c => iprop(rights c ∗ luggage m c)) fun c _ => T₀_intro m κ c)
  isplitr; · iexact HR
  iapply bigSep_pair
  isplitl [Hr] <;> iassumption

/-! ## The run -/

/-- The buffers whose final contents are wanted, apart from the rest. -/
def wanted : Finset (DevRef τ sig) := {Proc.devRef .tc main_arg0, Proc.devRef .tc main_arg1, Proc.devRef .tc main_arg2, Proc.devRef .tc main_v8}

theorem wanted_sub : wanted ⊆ bufs := by decide

theorem wanted_eq (c : Dev nD) (W : Valuation τ sig (Elt F)) : (StableHlo.held (c : Thread nD τ) wanted W : sProp 𝕄)
    = iprop((((c : Thread nD τ).loc main_arg0) ↦{fullShare} W main_arg0) ∗ (((c : Thread nD τ).loc main_arg1) ↦{fullShare} W main_arg1)
      ∗ (((c : Thread nD τ).loc main_arg2) ↦{fullShare} W main_arg2) ∗ (((c : Thread nD τ).loc main_v8) ↦{fullShare} W main_v8)) := by
  unfold StableHlo.held
  rw [bigSep_eq_bigSepL_of_eq [Proc.devRef .tc main_arg0, Proc.devRef .tc main_arg1, Proc.devRef .tc main_arg2, Proc.devRef .tc main_v8] (by decide) (by decide)]
  rfl

/-- What a device's buffers hold at the end. -/
abbrev ended (c : Dev nD) : Valuation τ sig (Elt F) := StableHlo.after hostOps1 (final m c)

theorem unscoped_sem : ∀ sm : SemLoc sig, sm.isScoped .tc = false → sm = .reg barS := by decide

set_option backward.isDefEq.respectTransparency.types false in
theorem run_ended : θ_run defs (onTc (τ := τ) (main (F := F))) (s₀ m ρ)
    (fun r => (∀ c : Dev nD, r.2.mem ((c : Thread nD τ).loc main_arg0) = ended m c main_arg0 ∧ r.2.mem ((c : Thread nD τ).loc main_arg1) = ended m c main_arg1
        ∧ r.2.mem ((c : Thread nD τ).loc main_arg2) = ended m c main_arg2 ∧ r.2.mem ((c : Thread nD τ).loc main_v8) = ended m c main_v8)
      ∧ r.2.sem = fun _ => 0) :=
  Pipeline.θ_run_regions_kit_sems (pcfgs (F := F)) adm (pdats m) () cellOf_inj EP defs₀ 𝒱₀ L lv m ρ main (segs m)
    (fun c Q => by rw [main_segs adm (pdats m) () 𝒱₀ L lv (seg0 m) (seg1 m) (region m) rfl rfl c]; rfl)
    (by simp only [segs, Pipeline.Seg.pipes_host, Pipeline.Seg.pipes_region, Pipeline.Seg.pipes_nil]; decide)
    (O₀ := debt 0) (hL := L_of_ne) (G := parked) (u₀ := u₀)
    (hu₀ := by
      unfold u₀
      iintro Hu
      ihave H := (ownU_pair _ _) $$ Hu
      icases H with ⟨HP, HX⟩
      imodintro
      isplitl [HP]; · iexact HP
      rw [parked_all]; iexact HX)
    (T₀ := T₀ m) (Tₙ := Tₙ m)
    (hch := by
      refine ⟨fun c => .rfl, fun c => region_pre m c, fun c => region_post m c, fun c => ?_⟩
      show iprop(StableHlo.held (c : Thread nD τ) bufs (ended m c) ∗ ridden c) ⊢ iprop(Tₙ m c ∗ ∃ W, owes (c : Thread nD τ) (0 : CellTallies nD τ sig Unit) W)
      unfold ridden
      iintro ⟨Hh, Hb, HO⟩
      isplitr [HO]
      · isplitl [Hh] <;> iassumption
      · iexact HO)
    (hinit := init m ρ)
    (QY := fun c s => (s.mem ((c : Thread nD τ).loc main_arg0) = ended m c main_arg0 ∧ s.mem ((c : Thread nD τ).loc main_arg1) = ended m c main_arg1
        ∧ s.mem ((c : Thread nD τ).loc main_arg2) = ended m c main_arg2 ∧ s.mem ((c : Thread nD τ).loc main_v8) = ended m c main_v8)
      ∧ s.sem (bar c) = 0)
    (hfin := fun c s' => by
      dsimp only [Tₙ]
      rw [StableHlo.held_sub_split (c : Thread nD τ) wanted_sub, wanted_eq]
      iintro ⟨⟨⟨⟨H0, H1, H2, H3⟩, -⟩, Hb⟩, HSI⟩
      icombine HSI H0 gives %h0
      icombine HSI H1 gives %h1
      icombine HSI H2 gives %h2
      icombine HSI H3 gives %h3
      icombine HSI Hb gives %hb
      imodintro
      isplitr
      · ipureintro
        exact ⟨⟨Buf.eq_of_forall_mem_univ h0, Buf.eq_of_forall_mem_univ h1, Buf.eq_of_forall_mem_univ h2, Buf.eq_of_forall_mem_univ h3⟩, by simpa using hb⟩
      iexact HSI)
    (hQ := fun s h hs => ⟨fun c => (h c).1, sem_eq_zero hs fun c sm hsm => by
      obtain rfl := unscoped_sem sm hsm
      exact (h c).2⟩)

end Cert.KernelIdeal.Talk

end
-- ==== Proof.Result.lean ====
/-
What the run leaves in the program's own arrays: the arguments as they were, and the result array as the kernel's
result with its columns split into heads.
-/
module

public import proofs.«01_k».proof.Proof.Launch
public import Idealize.ShloMosaic.Lib.StableHlo.Run

@[expose] public section

noncomputable section

namespace Cert.KernelIdeal.Talk

open Cert.KernelIdeal Cert.KernelIdeal.Gen
open Idealize.ShloMosaic
open Idealize.ShloMosaic.TcCoe
open Idealize.SL Idealize.SL.Sem

variable {F : FTy → Type} [FloatOps F] [∀ e, Nonempty (Elt F e)]

variable (m : (ℓ : Loc nD τ sig) → Buf (Elt F) ℓ) (ρ : Dev nD → PrngReg)

/-- The line after the kernel writes the result array only. -/
theorem ended_ne (c : Dev nD) (b : Ref sig .tc) (h : b ≠ main_v8) : ended m c b = final m c b := by
  refine StableHlo.after_of_forall_not_mem (b := Proc.devRef .tc b) _ _ (List.forall_iff_forall_mem.mp ?_)
  simp only [hostOps1, List.Forall, StableHlo.reshape_writes, Finset.mem_singleton]
  exact StableHlo.devRef_ne_of_ne h

theorem ended_arg0 (c : Dev nD) : ended m c main_arg0 = m ((c : Thread nD τ).loc main_arg0) :=
  (ended_ne m c main_arg0 (by decide)).trans ((final_ne m c (b := Proc.devRef .tc main_arg0) (by decide)).trans (V_main_arg0 m c))
theorem ended_arg1 (c : Dev nD) : ended m c main_arg1 = m ((c : Thread nD τ).loc main_arg1) :=
  (ended_ne m c main_arg1 (by decide)).trans ((final_ne m c (b := Proc.devRef .tc main_arg1) (by decide)).trans (V_main_arg1 m c))
theorem ended_arg2 (c : Dev nD) : ended m c main_arg2 = m ((c : Thread nD τ).loc main_arg2) :=
  (ended_ne m c main_arg2 (by decide)).trans ((final_ne m c (b := Proc.devRef .tc main_arg2) (by decide)).trans (V_main_arg2 m c))

/-- The kernel's result is written to its array whole. -/
theorem written_back (c : Dev nD) : (dat m c).arrAt 3 cfg0.N = outcome m c := by
  have hf : ∀ f : S2x256x512.Idx → F .f32, ((cfg0.win 3).blk t0_0).view.write (Elt F) f (outcome m c) Finset.univ = outcome m c := fun f =>
    Memref.write_access_unit_zero_univ (Elt F) main_v7 (funext fun a => Nat.zero_mul _) _ f _
  have e : (dat m c).arrAt 3 (0 + 1) = ((cfg0.win 3).blk t0_0).view.write (Elt F) ((dat m c).arrAt 3 0) (outcome m c) Finset.univ := by
    rw [show (dat m c).arrAt 3 (0 + 1) = if h : 0 < cfg0.N then
      if (cfg0.win 3).flush ⟨0, h⟩ then ((cfg0.win 3).blk ⟨0, h⟩).view.write (Elt F) ((dat m c).arrAt 3 0) ((dat m c).flushed 3 ⟨0, h⟩) Finset.univ
        else (dat m c).arrAt 3 0 else (dat m c).arrAt 3 0 from rfl, dif_pos (by decide), if_pos (flush0_3 _)]
    rfl
  exact (show (dat m c).arrAt 3 cfg0.N = (dat m c).arrAt 3 (0 + 1) from congrArg _ N_0).trans (e.trans (hf _))

theorem ended_result (c : Dev nD) : ended m c main_v8 = shapeCast S2x256x8x64 (outcome m c) shapeCasts_S2x256x512_S2x256x8x64 := by
  have h : final m c main_v7 = outcome m c := (Function.update_self (f := V0 m c) _ _).trans (written_back m c)
  unfold ended hostOps1
  after_results
  rw [h]
  rfl

/-- The blocks the kernel is handed: the arguments with pairs of heads side by side, one pair after the other. -/
abbrev paired (X : S2x256x8x64.Idx → F .bf16) : S4x2x256x128.Idx → F .bf16 :=
  transpose S4x2x256x128 [2, 0, 1, 3] (shapeCast S2x256x4x128 X shapeCasts_S2x256x8x64_S2x256x4x128) transposes_S2x256x4x128_S4x2x256x128_2_0_1_3

theorem queries_eq (c : Dev nD) : queries m c = paired (m ((c : Thread nD τ).loc main_arg0)) := by
  have e : V m c main_v2 = paired (m ((c : Thread nD τ).loc main_arg0)) := by
    unfold V V0 hostOps0
    after_results
    rfl
  have hr : ∀ f : S4x2x256x128.Idx → F .bf16, ((cfg0.win 0).blk t0_0).view.read (Elt F) f = f := fun f =>
    Memref.read_access_unit_zero (Elt F) main_v2 (funext fun a => Nat.zero_mul _) _ f
  exact (hr (V m c main_v2)).trans e
theorem keys_eq (c : Dev nD) : keys m c = paired (m ((c : Thread nD τ).loc main_arg1)) := by
  have e : V m c main_v4 = paired (m ((c : Thread nD τ).loc main_arg1)) := by
    unfold V V0 hostOps0
    after_results
    rfl
  have hr : ∀ f : S4x2x256x128.Idx → F .bf16, ((cfg0.win 1).blk t0_0).view.read (Elt F) f = f := fun f =>
    Memref.read_access_unit_zero (Elt F) main_v4 (funext fun a => Nat.zero_mul _) _ f
  exact (hr (V m c main_v4)).trans e
theorem values_eq (c : Dev nD) : values m c = paired (m ((c : Thread nD τ).loc main_arg2)) := by
  have e : V m c main_v6 = paired (m ((c : Thread nD τ).loc main_arg2)) := by
    unfold V V0 hostOps0
    after_results
    rfl
  have hr : ∀ f : S4x2x256x128.Idx → F .bf16, ((cfg0.win 2).blk t0_0).view.read (Elt F) f = f := fun f =>
    Memref.read_access_unit_zero (Elt F) main_v6 (funext fun a => Nat.zero_mul _) _ f
  exact (hr (V m c main_v6)).trans e

/-- The run: every argument as it was, the result array the kernel's result by heads, every counter at zero. -/
theorem run_main : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_v8) = shapeCast S2x256x8x64 (outcome m c) shapeCasts_S2x256x512_S2x256x8x64)
      ∧ r.2.sem = fun _ => 0) :=
  (θ_run defs _ _).mono (fun r h => ⟨fun c => ⟨(h.1 c).1.trans (ended_arg0 m c), (h.1 c).2.1.trans (ended_arg1 m c),
      (h.1 c).2.2.1.trans (ended_arg2 m c), (h.1 c).2.2.2.trans (ended_result m c)⟩, h.2⟩)
    (run_ended m ρ)

end Cert.KernelIdeal.Talk

end
-- ==== Proof.Block.lean ====
/-
What one step of the kernel computes over the extended reals, at one entry: of one head's queries, keys and values of a
piece, the sum of the exponentials of the scores, and the values weighted by them.
-/
module

public import proofs.«01_k».proof.Proof.Values
public import Idealize.ShloMosaic.Lib.Pointwise

@[expose] public section

noncomputable section

namespace Cert.KernelIdeal.Talk

open Cert.KernelIdeal Cert.KernelIdeal.Gen
open Idealize.ShloMosaic
open scoped BigOperators

/-- The score of row `r` of the queries against row `s` of the keys. -/
def dots (q k : S2x256x64.Idx → EReal) (b : Fin 2) (r s : Fin 256) : EReal := ∑ d : Fin 64, q (ix3 b r d) * k (ix3 b s d)
/-- The sum of the exponentials of a row's scores. -/
def mass (q k : S2x256x64.Idx → EReal) (b : Fin 2) (r : Fin 256) : EReal := ∑ s : Fin 256, Ideal.exp (dots q k b r s)
/-- The values, each weighted by the exponential of its score. -/
def blend (q k v : S2x256x64.Idx → EReal) (b : Fin 2) (r : Fin 256) (d : Fin 64) : EReal :=
  ∑ s : Fin 256, Ideal.exp (dots q k b r s) * v (ix3 b s d)

variable (q k v a : S2x256x64.Idx → EReal) (w : S2x1x256x1.Idx → EReal) (b : Fin 2) (r s : Fin 256) (d : Fin 64)

/-! ## The exponentials of the scores -/

theorem pay5_apply : k0_pay5 (F := Ideal) q k (ix3 b r s) = Ideal.exp (dots q k b r s) := by
  pointwise [k0_pay5]
  rfl
theorem pay8_apply : k0_pay8 (F := Ideal) q k (ix3 b r s) = Ideal.exp (dots q k b r s) := by
  pointwise [k0_pay8]
  rfl
theorem pay11_apply : k0_pay11 (F := Ideal) q k (ix3 b r s) = Ideal.exp (dots q k b r s) := by
  pointwise [k0_pay11]
  rfl
theorem pay14_apply : k0_pay14 (F := Ideal) q k (ix3 b r s) = Ideal.exp (dots q k b r s) := by
  pointwise [k0_pay14]
  rfl
theorem pay18_apply : k0_pay18 (F := Ideal) q k (ix3 b r s) = Ideal.exp (dots q k b r s) := by
  pointwise [k0_pay18]
  rfl
theorem pay21_apply : k0_pay21 (F := Ideal) q k (ix3 b r s) = Ideal.exp (dots q k b r s) := by
  pointwise [k0_pay21]
  rfl
theorem pay24_apply : k0_pay24 (F := Ideal) q k (ix3 b r s) = Ideal.exp (dots q k b r s) := by
  pointwise [k0_pay24]
  rfl
theorem pay27_apply : k0_pay27 (F := Ideal) q k (ix3 b r s) = Ideal.exp (dots q k b r s) := by
  pointwise [k0_pay27]
  rfl

/-! ## Their row sums, added to the sums so far -/

theorem pay6_apply : k0_pay6 (F := Ideal) q k w (ix4 b 0 r 0) = w (ix4 b 0 r 0) + mass q k b r := by
  pointwise [k0_pay6]
  simp only [pay5_apply, mass]
theorem pay9_apply : k0_pay9 (F := Ideal) q k w (ix4 b 0 r 0) = w (ix4 b 0 r 0) + mass q k b r := by
  pointwise [k0_pay9]
  simp only [pay8_apply, mass]
theorem pay12_apply : k0_pay12 (F := Ideal) q k w (ix4 b 0 r 0) = w (ix4 b 0 r 0) + mass q k b r := by
  pointwise [k0_pay12]
  simp only [pay11_apply, mass]
theorem pay19_apply : k0_pay19 (F := Ideal) q k w (ix4 b 0 r 0) = w (ix4 b 0 r 0) + mass q k b r := by
  pointwise [k0_pay19]
  simp only [pay18_apply, mass]
theorem pay25_apply : k0_pay25 (F := Ideal) q k w (ix4 b 0 r 0) = w (ix4 b 0 r 0) + mass q k b r := by
  pointwise [k0_pay25]
  simp only [pay24_apply, mass]
theorem pay28_apply : k0_pay28 (F := Ideal) q k w (ix4 b 0 r 0) = w (ix4 b 0 r 0) + mass q k b r := by
  pointwise [k0_pay28]
  simp only [pay27_apply, mass]
theorem pay16_apply : k0_pay16 (F := Ideal) (k0_pay14 (F := Ideal) q k) (k0_pay15 (F := Ideal) w) (ix4 b 0 r 0) = w (ix4 b 0 r 0) + mass q k b r := by
  pointwise [k0_pay16, k0_pay15]
  simp only [pay14_apply, mass]
theorem pay22_apply : k0_pay22 (F := Ideal) (k0_pay21 (F := Ideal) q k) w (ix4 b 0 r 0) = w (ix4 b 0 r 0) + mass q k b r := by
  pointwise [k0_pay22]
  simp only [pay21_apply, mass]

/-! ## The weighted values, added to the sums so far -/

theorem pay7_apply : k0_pay7 (F := Ideal) (k0_pay5 (F := Ideal) q k) v a (ix3 b r d) = a (ix3 b r d) + blend q k v b r d := by
  pointwise [k0_pay7]
  simp only [pay5_apply, blend]
theorem pay10_apply : k0_pay10 (F := Ideal) (k0_pay8 (F := Ideal) q k) v a (ix3 b r d) = a (ix3 b r d) + blend q k v b r d := by
  pointwise [k0_pay10]
  simp only [pay8_apply, blend]
theorem pay17_apply : k0_pay17 (F := Ideal) (k0_pay14 (F := Ideal) q k) v a (ix3 b r d) = a (ix3 b r d) + blend q k v b r d := by
  pointwise [k0_pay17]
  simp only [pay14_apply, blend]
theorem pay23_apply : k0_pay23 (F := Ideal) (k0_pay21 (F := Ideal) q k) v a (ix3 b r d) = a (ix3 b r d) + blend q k v b r d := by
  pointwise [k0_pay23]
  simp only [pay21_apply, blend]
theorem pay13_apply : k0_pay13 (F := Ideal) q k v a (ix3 b r d) = a (ix3 b r d) + blend q k v b r d := by
  pointwise [k0_pay13]
  simp only [pay11_apply, blend]
theorem pay20_apply : k0_pay20 (F := Ideal) q k v a (ix3 b r d) = a (ix3 b r d) + blend q k v b r d := by
  pointwise [k0_pay20]
  simp only [pay18_apply, blend]
theorem pay26_apply : k0_pay26 (F := Ideal) q k v a (ix3 b r d) = a (ix3 b r d) + blend q k v b r d := by
  pointwise [k0_pay26]
  simp only [pay24_apply, blend]
theorem pay29_apply : k0_pay29 (F := Ideal) q k v a (ix3 b r d) = a (ix3 b r d) + blend q k v b r d := by
  pointwise [k0_pay29]
  simp only [pay27_apply, blend]

/-! ## The beginning and the end -/

theorem pay3_apply (j : S2x256x128.Idx) : k0_pay3 (F := Ideal) j = 0 := by
  pointwise [k0_pay3]
theorem pay4_apply (j : S2x2x256x1.Idx) : k0_pay4 (F := Ideal) j = 0 := by
  pointwise [k0_pay4]
theorem pay30_apply : k0_pay30 (F := Ideal) a w (ix3 b r d) = Ideal.div (a (ix3 b r d)) (w (ix4 b 0 r 0)) := by
  pointwise [k0_pay30]

/-- The columns of head `h` of a pair. -/
def col (h : Fin 2) (d : Fin 64) : Fin 128 := ⟨64 * h.val + d.val, by omega⟩

theorem pay31_first (o : S2x256x64.Idx → EReal) : k0_pay31 (F := Ideal) o a w (ix3 b r (col 0 d)) = o (ix3 b r d) := by
  pointwise [k0_pay31]
  exact dif_pos (show (col 0 d).val < 64 from by show 64 * 0 + d.val < 64; omega) |>.trans
    (congrArg (fun e => o (ix3 b r e)) (Fin.ext (show 64 * 0 + d.val = d.val by omega)))
theorem pay31_second (o : S2x256x64.Idx → EReal) :
    k0_pay31 (F := Ideal) o a w (ix3 b r (col 1 d)) = Ideal.div (a (ix3 b r d)) (w (ix4 b 0 r 0)) := by
  pointwise [k0_pay31]
  exact dif_neg (show ¬ (col 1 d).val < 64 from by show ¬ 64 * 1 + d.val < 64; omega) |>.trans
    (congrArg (fun e => Ideal.div (a (ix3 b r e)) (w (ix4 b 0 r 0))) (Fin.ext (show 64 * 1 + d.val - 64 = d.val by omega)))
theorem pay32_eq (o : S2x256x64.Idx → EReal) : k0_pay32 (F := Ideal) o a w = k0_pay31 (F := Ideal) o a w := by
  funext j
  pointwise [k0_pay32]
theorem pay33_eq (x : S2x256x128.Idx → EReal) : k0_pay33 (F := Ideal) x = x := by
  funext j
  pointwise [k0_pay33]
theorem pay34_eq (x : S2x256x128.Idx → EReal) : k0_pay34 (F := Ideal) x = x := by
  funext j
  pointwise [k0_pay34]
theorem pay35_eq (x : S2x256x128.Idx → EReal) : k0_pay35 (F := Ideal) x = x := by
  funext j
  pointwise [k0_pay35]

/-- The query, scaled by an eighth: the block has one more axis, of length one. -/
theorem scaled_apply (x : S1x2x256x128.Idx → EReal) (e : Fin 128) :
    k0_pay2 (F := Ideal) (k0_pay1 (F := Ideal) x) (ix3 b r e) = x (ix4 0 b r e) * Ideal.ofBits .bf16 0x3E00#16 := by
  pointwise [k0_pay2, k0_pay1]

end Cert.KernelIdeal.Talk

end
-- ==== Proof.Piece.lean ====
/-
What one device computes over the extended reals, at one entry of its result: the values of its four pieces, each
weighted by the exponential of its score and added up, over the sum of those weights.
-/
module

public import proofs.«01_k».proof.Proof.Block

@[expose] public section

noncomputable section

namespace Cert.KernelIdeal.Talk

open Cert.KernelIdeal Cert.KernelIdeal.Gen
open Idealize.ShloMosaic
open scoped BigOperators

/-- The columns of head `h` of a pair, of a buffer. -/
def side (h : Fin 2) (X : S2x256x128.Idx → EReal) : S2x256x64.Idx → EReal := fun j => X (ix3 (j 0) (j 1) (col h (j 2)))

theorem part_head0 (X : S2x256x128.Idx → EReal) : part head0 X = side 0 X := by
  funext j
  refine congrArg X (funext fun a => Fin.ext ?_)
  rw [Rect.emb_apply]
  fin_cases a
  · exact (Nat.zero_add _).trans (Nat.one_mul _)
  · exact (Nat.zero_add _).trans (Nat.one_mul _)
  · exact congrArg (0 + ·) (Nat.one_mul _)
theorem part_head1 (X : S2x256x128.Idx → EReal) : part head1 X = side 1 X := by
  funext j
  refine congrArg X (funext fun a => Fin.ext ?_)
  rw [Rect.emb_apply]
  fin_cases a
  · exact (Nat.zero_add _).trans (Nat.one_mul _)
  · exact (Nat.zero_add _).trans (Nat.one_mul _)
  · exact congrArg (64 + ·) (Nat.one_mul _)

/-- The sum of the weights of row `r` in head `h`, over the four pieces. -/
def massAll (P : Pieces Ideal) (h b : Fin 2) (r : Fin 256) : EReal :=
  mass (side h P.q) (side h P.ok) b r + mass (side h P.q) (side h P.lk) b r + mass (side h P.q) (side h P.rk) b r
    + mass (side h P.q) (side h P.fk) b r
/-- The weighted values, over the four pieces. -/
def blendAll (P : Pieces Ideal) (h b : Fin 2) (r : Fin 256) (d : Fin 64) : EReal :=
  blend (side h P.q) (side h P.ok) (side h P.ov) b r d + blend (side h P.q) (side h P.lk) (side h P.lv) b r d
    + blend (side h P.q) (side h P.rk) (side h P.rv) b r d + blend (side h P.q) (side h P.fk) (side h P.fv) b r d

variable (P : Pieces Ideal) (b : Fin 2) (r : Fin 256) (d : Fin 64)

theorem wAll0_apply : wAll0 P (ix4 b 0 r 0) = massAll P 0 b r := by
  unfold wAll0 wRight0 wLeft0 wOwn0 massAll
  simp only [part_head0]
  rw [pay25_apply, pay19_apply, pay12_apply, pay6_apply]
  unfold part
  rw [pay4_apply, zero_add]
theorem wAll1_apply : wAll1 P (ix4 b 0 r 0) = massAll P 1 b r := by
  unfold wAll1 wRight1 wLeft1 wOwn1 massAll
  simp only [part_head1]
  rw [pay28_apply, pay22_apply, pay16_apply, pay9_apply]
  unfold part
  rw [pay4_apply, zero_add]
theorem aAll0_apply : aAll0 P (ix3 b r d) = blendAll P 0 b r d := by
  unfold aAll0 aRight0 aLeft0 aOwn0 blendAll
  rw [pay26_apply, pay20_apply, pay13_apply, pay7_apply]
  simp only [← part_head0]
  unfold part
  rw [pay3_apply, zero_add]
theorem aAll1_apply : aAll1 P (ix3 b r d) = blendAll P 1 b r d := by
  unfold aAll1 aRight1 aLeft1 aOwn1 blendAll
  rw [pay29_apply, pay23_apply, pay17_apply, pay10_apply]
  simp only [← part_head1]
  unfold part
  rw [pay3_apply, zero_add]

/-- The device's own result, at one entry of head `h`. -/
theorem result_apply (h : Fin 2) : result P (ix3 b r (col h d)) = Ideal.div (blendAll P h b r d) (massAll P h b r) := by
  unfold result
  match h with
  | 0 => rw [pay31_first, pay30_apply, aAll0_apply, wAll0_apply]
  | 1 => rw [pay31_second, aAll1_apply, wAll1_apply]

/-- What it sends is what it keeps: the format makes no difference here. -/
theorem packed_eq : packed P = result P := pay32_eq _ _ _

end Cert.KernelIdeal.Talk

end
-- ==== Proof.Attend.lean ====
/-
Attention over the whole arrays, at one entry, in the two forms the programs compute: with the scores as they are and
one division at the end, and with the largest score taken off first and each weight divided. For finite queries and
keys the two agree, whatever the values are.
-/
module

public import Idealize.ShloMosaic.Lib.Pointwise

@[expose] public section

noncomputable section

namespace Cert.Attend

open Idealize.ShloMosaic
open scoped BigOperators

/-- Weighted values over the sum of the weights, the weights being the exponentials of the scores. -/
def plain {n : ℕ} (t v : Fin n → EReal) : EReal := Ideal.div (∑ s, Ideal.exp (t s) * v s) (∑ s, Ideal.exp (t s))

/-- The largest score, from minus infinity on. -/
def top {n : ℕ} (t : Fin n → EReal) : EReal := Finset.univ.fold max ⊥ t

/-- The values, each times its own share: the exponential of its score less the largest one, over the sum of those. -/
def steady {n : ℕ} (t v : Fin n → EReal) : EReal :=
  ∑ s, v s * Ideal.div (Ideal.exp (t s - top t)) (∑ u, Ideal.exp (t u - top t))

/-- Multiplying by a number that is neither negative nor infinite goes through a sum. -/
theorem sum_mul_coe {n : ℕ} (f : Fin n → EReal) (x : ℝ) (hx : 0 ≤ x) : (∑ s, f s) * (x : EReal) = ∑ s, f s * (x : EReal) := by
  induction n with
  | zero => simp
  | succ n ih =>
    rw [Fin.sum_univ_succ, Fin.sum_univ_succ, EReal.right_distrib_of_nonneg_of_ne_top (EReal.coe_nonneg.mpr hx) (EReal.coe_ne_top x), ih]

theorem coe_sum {n : ℕ} (f : Fin n → ℝ) : ((∑ s, f s : ℝ) : EReal) = ∑ s, (f s : EReal) := by
  induction n with
  | zero => simp
  | succ n ih => rw [Fin.sum_univ_succ, Fin.sum_univ_succ, EReal.coe_add, ih]

/-- The largest of finitely many finite scores is finite. -/
theorem top_coe {n : ℕ} (t : Fin (n + 1) → ℝ) : ∃ M : ℝ, top (fun s => (t s : EReal)) = M := by
  have hlt : top (fun s => (t s : EReal)) ≠ ⊤ :=
    ((Finset.fold_max_lt _).mpr ⟨bot_lt_top, fun s _ => EReal.coe_lt_top (t s)⟩).ne
  have hgt : top (fun s => (t s : EReal)) ≠ ⊥ :=
    ((Finset.lt_fold_max _).mpr (.inr ⟨0, Finset.mem_univ _, EReal.bot_lt_coe (t 0)⟩)).ne'
  exact ⟨_, (EReal.coe_toReal hlt hgt).symm⟩

theorem steady_eq_plain {n : ℕ} (t : Fin (n + 1) → ℝ) (v : Fin (n + 1) → EReal) :
    steady (fun s => (t s : EReal)) v = plain (fun s => (t s : EReal)) v := by
  obtain ⟨M, hM⟩ := top_coe t
  unfold steady plain
  rw [hM]
  have hL : 0 < ∑ s, Real.exp (t s) := Finset.sum_pos (fun s _ => Real.exp_pos _) Finset.univ_nonempty
  have hL' : 0 < ∑ s, Real.exp (t s - M) := Finset.sum_pos (fun s _ => Real.exp_pos _) Finset.univ_nonempty
  have e1 : ∑ s, Ideal.exp ((t s : ℝ) : EReal) = ((∑ s, Real.exp (t s) : ℝ) : EReal) := by
    rw [coe_sum]; exact Finset.sum_congr rfl fun s _ => Ideal.exp_coe _
  have e2 : ∑ s, Ideal.exp (((t s : ℝ) : EReal) - (M : EReal)) = ((∑ s, Real.exp (t s - M) : ℝ) : EReal) := by
    rw [coe_sum]; exact Finset.sum_congr rfl fun s _ => by rw [← EReal.coe_sub, Ideal.exp_coe]
  show ∑ s, v s * Ideal.div (Ideal.exp ((t s : EReal) - (M : EReal))) (∑ u, Ideal.exp ((t u : EReal) - (M : EReal)))
    = Ideal.div (∑ s, Ideal.exp (t s : EReal) * v s) (∑ s, Ideal.exp (t s : EReal))
  rw [e1, e2, Ideal.div_coe hL.ne', sum_mul_coe _ _ (by positivity)]
  refine Finset.sum_congr rfl fun s _ => ?_
  rw [Ideal.div_coe hL'.ne', ← EReal.coe_sub, Ideal.exp_coe, Ideal.exp_coe, ← EReal.coe_mul, mul_comm ((Real.exp (t s) : ℝ) : EReal) (v s), mul_assoc,
    ← EReal.coe_mul]
  congr 2
  have hs : ∑ s, Real.exp (t s - M) = (∑ s, Real.exp (t s)) * Real.exp (-M) := by
    rw [Finset.sum_mul]; exact Finset.sum_congr rfl fun s _ => by rw [← Real.exp_add]; rfl
  rw [hs, sub_eq_add_neg, Real.exp_add]
  have := Real.exp_pos (-M)
  field_simp

/-- A sum over four groups of 256, taken from any group on in the order own, left, right, far, is the sum over all. -/
theorem sum_groups {M : Type*} [AddCommMonoid M] (f : Fin 1024 → M) (g : Fin 4 → M)
    (hg : ∀ y : Fin 4, g y = ∑ s : Fin 256, f ⟨256 * y.val + s.val, by omega⟩) (y : Fin 4) :
    g y + g (y + 3) + g (y + 1) + g (y + 2) = ∑ s, f s := by
  have h : ∑ s, f s = ∑ y, g y := by
    rw [← Fintype.sum_equiv (finProdFinEquiv (m := 4) (n := 256)) (fun p => f (finProdFinEquiv p)) f fun _ => rfl, Fintype.sum_prod_type]
    refine Finset.sum_congr rfl fun y _ => ?_
    rw [hg]
    refine Finset.sum_congr rfl fun s _ => congrArg f (Fin.ext ?_)
    show s.val + 256 * y.val = 256 * y.val + s.val
    omega
  rw [h, Fin.sum_univ_four]
  fin_cases y
  · show g 0 + g 3 + g 1 + g 2 = _; abel
  · show g 1 + g 0 + g 2 + g 3 = _; abel
  · show g 2 + g 1 + g 3 + g 0 = _; abel
  · show g 3 + g 2 + g 0 + g 1 = _; abel

end Cert.Attend

end
-- ==== Proof.Whole.lean ====
/-
What each device ends with, as a function of the whole arrays the devices hold blocks of: attention of the block's rows
over all the keys and values, in every head.
-/
module

public import proofs.«01_k».proof.Proof.Piece
public import proofs.«01_k».proof.Proof.Attend
public import proofs.«01_k».proof.Proof.Result

@[expose] public section

noncomputable section

namespace Cert.KernelIdeal.Talk

open Cert.KernelIdeal Cert.KernelIdeal.Gen
open Idealize.ShloMosaic Idealize.ShloMosaic.TcCoe
open scoped BigOperators

/-- Head `h` of pair `p`, among all the heads. -/
def headOf (p : Fin 4) (h : Fin 2) : Fin 8 := ⟨2 * p.val + h.val, by omega⟩

theorem paired_apply (X : S2x256x8x64.Idx → EReal) (p : Fin 4) (b : Fin 2) (r : Fin 256) (h : Fin 2) (d : Fin 64) :
    paired (F := Ideal) X (ix4 p b r (col h d)) = X (ix4 b r (headOf p h) d) := by
  pointwise [paired]
  refine congrArg X (congrArg₂ (ix4 b r) (Fin.ext ?_) (Fin.ext ?_))
  · show p.val * 2 + (64 * h.val + d.val) / 64 = 2 * p.val + h.val; omega
  · show (64 * h.val + d.val) % 64 = d.val; omega

theorem flat_apply (x : S1x2x256x128.Idx → EReal) (b : Fin 2) (r : Fin 256) (e : Fin 128) :
    shapeCast S2x256x128 x shapeCasts_S1x2x256x128_S2x256x128 (ix3 b r e) = x (ix4 0 b r e) := by
  pointwise []

theorem emb_pair {off : Fin 4 → ℕ} (inb : ∀ a, off a + S1x2x256x128.size a ≤ S4x2x256x128.size a) (p : Fin 4) (h : off = ![p.val, 0, 0, 0])
    (Q : S4x2x256x128.Idx → EReal) (b : Fin 2) (r : Fin 256) (e : Fin 128) :
    part (Rect.unit (s := S4x2x256x128) off S1x2x256x128.size inb) Q (ix4 0 b r e) = Q (ix4 p b r e) := by
  subst h
  refine congrArg Q (funext fun a => Fin.ext ?_)
  rw [Rect.emb_apply]
  fin_cases a
  · exact Nat.add_zero _
  · exact (Nat.zero_add _).trans (Nat.one_mul _)
  · exact (Nat.zero_add _).trans (Nat.one_mul _)
  · exact (Nat.zero_add _).trans (Nat.one_mul _)

/-- A device's head pair of its keys, and of its values. -/
theorem ownK_apply (K : Dev nD → S4x2x256x128.Idx → EReal) (c : Dev nD) (b : Fin 2) (r : Fin 256) (e : Fin 128) :
    ownK (F := Ideal) K c (ix3 b r e) = K c (ix4 (quarter c) b r e) :=
  (show ownK (F := Ideal) K c (ix3 b r e) = shapeCast S2x256x128 (part (pairK c) (K c)) shapeCasts_S1x2x256x128_S2x256x128 (ix3 b r e) from rfl).trans
    ((flat_apply (part (pairK c) (K c)) b r e).trans (emb_pair (k0_off1_inb c) (quarter c) (off1_eq c) (K c) b r e))
theorem ownV_apply (V : Dev nD → S4x2x256x128.Idx → EReal) (c : Dev nD) (b : Fin 2) (r : Fin 256) (e : Fin 128) :
    ownV (F := Ideal) V c (ix3 b r e) = V c (ix4 (quarter c) b r e) :=
  (show ownV (F := Ideal) V c (ix3 b r e) = shapeCast S2x256x128 (part (pairK c) (V c)) shapeCasts_S1x2x256x128_S2x256x128 (ix3 b r e) from rfl).trans
    ((flat_apply (part (pairK c) (V c)) b r e).trans (emb_pair (k0_off1_inb c) (quarter c) (off1_eq c) (V c) b r e))

theorem spread_apply (Y : S2x256x512.Idx → EReal) (b : Fin 2) (r : Fin 256) (h : Fin 8) (d : Fin 64) :
    shapeCast S2x256x8x64 Y shapeCasts_S2x256x512_S2x256x8x64 (ix4 b r h d) = Y (ix3 b r ⟨64 * h.val + d.val, by omega⟩) := by
  pointwise []
  exact congrArg (fun e => Y (ix3 b r e)) (Fin.ext (congrArg (· + d.val) (Nat.mul_comm _ _)))

/-- The rows device `c` holds start at 256 times this. -/
def rowsOf (c : Dev nD) : Fin 4 := ⟨c.val / 4 % 4, Nat.mod_lt _ (by decide)⟩

theorem block_apply (X : (⟨4, ![2, 1024, 8, 64]⟩ : Shape).Idx → EReal) (c : Dev nD) (b : Fin 2) (r : Fin 256) (h : Fin 8) (d : Fin 64) :
    Layout.blockN ⟨4, ![2, 256, 8, 64]⟩ ⟨4, ![2, 1024, 8, 64]⟩ (Layout.meshBlock [2, 4, 4] ![[], [1], [], []] c) X (by decide) (ix4 b r h d)
      = X (ix4 b ⟨256 * (rowsOf c).val + r.val, by omega⟩ h d) := by
  refine congrArg X (funext fun a => Fin.ext ?_)
  rw [Layout.TilesN.idx_val]
  fin_cases a
  · exact (congrArg (· + b.val) (Nat.zero_mul _)).trans (Nat.zero_add _)
  · show ((c.val / 4) % 4 * 1 + 0) * 256 + r.val = 256 * (c.val / 4 % 4) + r.val
    omega
  · exact (congrArg (· + h.val) (Nat.zero_mul _)).trans (Nat.zero_add _)
  · exact (congrArg (· + d.val) (Nat.zero_mul _)).trans (Nat.zero_add _)

theorem rows_left (c : Dev nD) : rowsOf (left c) = rowsOf c + 3 := by revert c; decide
theorem rows_right (c : Dev nD) : rowsOf (right c) = rowsOf c + 1 := by revert c; decide
theorem rows_far (c : Dev nD) : rowsOf (left (left c)) = rowsOf c + 2 := by revert c; decide
theorem rows_square (c : Dev nD) (k : Fin 4) : rowsOf (square c k) = rowsOf c := by revert c k; decide

/-! ## One device's result -/

/-- The row numbered `r` of the `y`-th quarter of the rows. -/
def row (y : Fin 4) (r : Fin 256) : Fin 1024 := ⟨256 * y.val + r.val, by omega⟩

section Arrays

variable (X Y Z : (⟨4, ![2, 1024, 8, 64]⟩ : Shape).Idx → EReal)

/-- Device `c`'s block of a whole array. -/
abbrev held (X : (⟨4, ![2, 1024, 8, 64]⟩ : Shape).Idx → EReal) (c : Dev nD) : S2x256x8x64.Idx → EReal :=
  Layout.blockN ⟨4, ![2, 256, 8, 64]⟩ ⟨4, ![2, 1024, 8, 64]⟩ (Layout.meshBlock [2, 4, 4] ![[], [1], [], []] c) X

/-- The score of row `R` against key `s`, the query scaled first. -/
def score (b : Fin 2) (h : Fin 8) (R s : Fin 1024) : EReal :=
  ∑ d : Fin 64, X (ix4 b R h d) * Ideal.ofBits .bf16 0x3E00#16 * Y (ix4 b s h d)

/-- What device `c` computes with, of the whole arrays. -/
abbrev piecesOf (c : Dev nD) : Pieces Ideal :=
  pieces (fun c => paired (F := Ideal) (held X c)) (fun c => paired (F := Ideal) (held Y c)) (fun c => paired (F := Ideal) (held Z c)) c

variable (c : Dev nD) (h b : Fin 2) (r s : Fin 256) (d : Fin 64)

theorem side_q : side h (piecesOf X Y Z c).q (ix3 b r d)
    = X (ix4 b (row (rowsOf c) r) (headOf (quarter c) h) d) * Ideal.ofBits .bf16 0x3E00#16 :=
  (scaled_apply b r (part (pairQ c) (paired (F := Ideal) (held X c))) (col h d)).trans (congrArg (· * Ideal.ofBits .bf16 0x3E00#16)
    ((emb_pair (k0_off2_inb c) (quarter c) (off2_eq c) (paired (F := Ideal) (held X c)) b r (col h d)).trans
      ((paired_apply _ _ _ _ _ _).trans (block_apply X c b r _ d))))

theorem side_K (e : Dev nD) : side h (ownK (F := Ideal) (fun c => paired (F := Ideal) (held Y c)) e) (ix3 b s d)
    = Y (ix4 b (row (rowsOf e) s) (headOf (quarter e) h) d) :=
  (ownK_apply _ e b s (col h d)).trans ((paired_apply _ _ _ _ _ _).trans (block_apply Y e b s _ d))
theorem side_V (e : Dev nD) : side h (ownV (F := Ideal) (fun c => paired (F := Ideal) (held Z c)) e) (ix3 b s d)
    = Z (ix4 b (row (rowsOf e) s) (headOf (quarter e) h) d) :=
  (ownV_apply _ e b s (col h d)).trans ((paired_apply _ _ _ _ _ _).trans (block_apply Z e b s _ d))

/-- Against the piece of a device with the same head pair. -/
theorem dots_piece (e : Dev nD) (he : quarter e = quarter c) :
    dots (side h (piecesOf X Y Z c).q) (side h (ownK (F := Ideal) (fun c => paired (F := Ideal) (held Y c)) e)) b r s
      = score X Y b (headOf (quarter c) h) (row (rowsOf c) r) (row (rowsOf e) s) :=
  Finset.sum_congr rfl fun d _ => by rw [side_q, side_K, he]
theorem mass_piece (e : Dev nD) (he : quarter e = quarter c) :
    mass (side h (piecesOf X Y Z c).q) (side h (ownK (F := Ideal) (fun c => paired (F := Ideal) (held Y c)) e)) b r
      = ∑ s : Fin 256, Ideal.exp (score X Y b (headOf (quarter c) h) (row (rowsOf c) r) (row (rowsOf e) s)) :=
  Finset.sum_congr rfl fun s _ => by rw [dots_piece X Y Z c h b r s e he]
theorem blend_piece (e : Dev nD) (he : quarter e = quarter c) :
    blend (side h (piecesOf X Y Z c).q) (side h (ownK (F := Ideal) (fun c => paired (F := Ideal) (held Y c)) e))
        (side h (ownV (F := Ideal) (fun c => paired (F := Ideal) (held Z c)) e)) b r d
      = ∑ s : Fin 256, Ideal.exp (score X Y b (headOf (quarter c) h) (row (rowsOf c) r) (row (rowsOf e) s))
          * Z (ix4 b (row (rowsOf e) s) (headOf (quarter c) h) d) :=
  Finset.sum_congr rfl fun s _ => by rw [dots_piece X Y Z c h b r s e he, side_V, he]

/-- The device's own result: its rows attended over all the keys, in its pair of heads. -/
theorem result_whole : result (piecesOf X Y Z c) (ix3 b r (col h d))
    = Attend.plain (score X Y b (headOf (quarter c) h) (row (rowsOf c) r)) (fun s => Z (ix4 b s (headOf (quarter c) h) d)) := by
  rw [result_apply]
  unfold Attend.plain
  have hl : quarter (left c) = quarter c := quarter_left c
  have hr : quarter (right c) = quarter c := quarter_right c
  have hf : quarter (left (left c)) = quarter c := (quarter_left (left c)).trans hl
  have hA : blendAll (piecesOf X Y Z c) h b r d = ∑ s, Ideal.exp (score X Y b (headOf (quarter c) h) (row (rowsOf c) r) s) * Z (ix4 b s (headOf (quarter c) h) d) := by
    rw [← Attend.sum_groups (fun s => Ideal.exp (score X Y b (headOf (quarter c) h) (row (rowsOf c) r) s) * Z (ix4 b s (headOf (quarter c) h) d))
      (fun y => ∑ s : Fin 256, Ideal.exp (score X Y b (headOf (quarter c) h) (row (rowsOf c) r) (row y s)) * Z (ix4 b (row y s) (headOf (quarter c) h) d))
      (fun _ => rfl) (rowsOf c), ← rows_left, ← rows_right, ← rows_far,
      ← blend_piece X Y Z c h b r d c rfl, ← blend_piece X Y Z c h b r d _ hl, ← blend_piece X Y Z c h b r d _ hr, ← blend_piece X Y Z c h b r d _ hf]
    rfl
  have hW : massAll (piecesOf X Y Z c) h b r = ∑ s, Ideal.exp (score X Y b (headOf (quarter c) h) (row (rowsOf c) r) s) := by
    rw [← Attend.sum_groups (fun s => Ideal.exp (score X Y b (headOf (quarter c) h) (row (rowsOf c) r) s))
      (fun y => ∑ s : Fin 256, Ideal.exp (score X Y b (headOf (quarter c) h) (row (rowsOf c) r) (row y s)))
      (fun _ => rfl) (rowsOf c), ← rows_left, ← rows_right, ← rows_far,
      ← mass_piece X Y Z c h b r c rfl, ← mass_piece X Y Z c h b r _ hl, ← mass_piece X Y Z c h b r _ hr, ← mass_piece X Y Z c h b r _ hf]
    rfl
  rw [hA, hW]

end Arrays

/-! ## The array a device ends with -/

variable (m : (ℓ : Loc nD τ sig) → Buf (Elt Ideal) ℓ)

/-- Each of the four parts of the result is what a device of the square computed. -/
theorem written_eq (Q K V : Dev nD → S4x2x256x128.Idx → EReal) (c : Dev nD) (k : Fin 4) :
    written (F := Ideal) Q K V c k = result (pieces (F := Ideal) Q K V (square c k)) := by
  match k with
  | 0 => rfl
  | 1 => exact (pay33_eq _).trans (packed_eq _)
  | 2 => exact (pay34_eq _).trans (packed_eq _)
  | 3 => exact (pay35_eq _).trans (packed_eq _)

theorem square_pick (c : Dev nD) (p : Fin 4) : quarter (square c (pick c p)) = p := by revert c p; decide

/-- Where every device holds its blocks of three whole arrays, device `c` ends with its rows attended over all the keys. -/
theorem outcome_whole (X Y Z : (⟨4, ![2, 1024, 8, 64]⟩ : Shape).Idx → EReal)
    (hX : ∀ c : Dev nD, m ((c : Thread nD τ).loc main_arg0) = held X c) (hY : ∀ c : Dev nD, m ((c : Thread nD τ).loc main_arg1) = held Y c)
    (hZ : ∀ c : Dev nD, m ((c : Thread nD τ).loc main_arg2) = held Z c) (c : Dev nD) (b : Fin 2) (r : Fin 256) (h : Fin 8) (d : Fin 64) :
    shapeCast S2x256x8x64 (outcome m c) shapeCasts_S2x256x512_S2x256x8x64 (ix4 b r h d)
      = Attend.plain (score X Y b h (row (rowsOf c) r)) (fun s => Z (ix4 b s h d)) := by
  have hq : queries m = fun c => paired (F := Ideal) (held X c) := funext fun c => (queries_eq m c).trans (congrArg (paired (F := Ideal)) (hX c))
  have hk : keys m = fun c => paired (F := Ideal) (held Y c) := funext fun c => (keys_eq m c).trans (congrArg (paired (F := Ideal)) (hY c))
  have hv : values m = fun c => paired (F := Ideal) (held Z c) := funext fun c => (values_eq m c).trans (congrArg (paired (F := Ideal)) (hZ c))
  rw [spread_apply]
  unfold outcome joined
  rw [hq, hk, hv, written_eq]
  have hp : (pairOf (ix3 b r ⟨64 * h.val + d.val, by omega⟩)) = ⟨h.val / 2, by omega⟩ :=
    Fin.ext (show (64 * h.val + d.val) / 128 = h.val / 2 by omega)
  have hw : within (ix3 b r ⟨64 * h.val + d.val, by omega⟩) = ix3 b r (col ⟨h.val % 2, by omega⟩ d) := by
    funext a
    fin_cases a
    · rfl
    · rfl
    · exact Fin.ext (show (64 * h.val + d.val) % 128 = 64 * (h.val % 2) + d.val by omega)
  have hh : headOf ⟨h.val / 2, by omega⟩ ⟨h.val % 2, by omega⟩ = h := Fin.ext (show 2 * (h.val / 2) + h.val % 2 = h.val by omega)
  rw [hp, hw, result_whole, square_pick, hh, rows_square]

end Cert.KernelIdeal.Talk

end
-- ==== Proof.Reference.lean ====
/-
What the reference program computes over the extended reals, at one entry of its result.
-/
module

public import proofs.«01_k».proof.Proof.Gen.ReferenceIdeal
public import proofs.«01_k».proof.Proof.Attend

@[expose] public section

noncomputable section

namespace Cert.ReferenceIdeal.Value

open Cert.ReferenceIdeal Cert.ReferenceIdeal.Gen
open Idealize.ShloMosaic
open scoped BigOperators

variable (X Y Z : S2x1024x8x64.Idx → EReal)

/-- The scores, each an eighth of the inner product of a query and a key. -/
def scores : FVec Ideal S2x8x1024x1024 .f32 :=
  mulf (Host.dotGeneral dot_S2x1024x8x64_S2x1024x8x64_S2x8x1024x1024_3_3_1_1_02_02 none (extf .f32 (X : FVec Ideal S2x1024x8x64 .bf16) bitsLt_bf16_f32)
    (extf .f32 (Y : FVec Ideal S2x1024x8x64 .bf16) bitsLt_bf16_f32)) (broadcastInDim S2x8x1024x1024 ![] bcast_S_S2x8x1024x1024 (constant S_ .f32 0x3E000000#32))
/-- The exponentials of the scores, the largest of each row taken off. -/
def weights : FVec Ideal S2x8x1024x1024 .f32 :=
  Host.exp (subf (scores X Y) (broadcastInDim S2x8x1024x1024 ![0, 1, 2, 3] bcast_S2x8x1024x1_S2x8x1024x1024_0_1_2_3
    (broadcastInDim S2x8x1024x1 ![0, 1, 2] bcast_S2x8x1024_S2x8x1024x1_0_1_2
      (Host.reduce FloatOps.maximumf (scores X Y) (constant S_ .f32 0xFF800000#32) reducesTo_S2x8x1024x1024_S2x8x1024_d3 h_S_))))
/-- Each over the sum of its row. -/
def shares : FVec Ideal S2x8x1024x1024 .f32 :=
  Host.divf (weights X Y) (broadcastInDim S2x8x1024x1024 ![0, 1, 2, 3] bcast_S2x8x1024x1_S2x8x1024x1024_0_1_2_3
    (broadcastInDim S2x8x1024x1 ![0, 1, 2] bcast_S2x8x1024_S2x8x1024x1_0_1_2
      (Host.reduceAdd (weights X Y) (constant S_ .f32 0x00000000#32) reducesTo_S2x8x1024x1024_S2x8x1024_d3 h_S_)))
/-- The values, weighted by the shares: the reference's result. -/
def attention : FVec Ideal S2x1024x8x64 .f32 :=
  transpose S2x1024x8x64 [0, 3, 1, 2] (Host.dotGeneral dot_S2x1024x8x64_S2x8x1024x1024_S2x8x64x1024_1_3_3_2_02_01 none
    (extf .f32 (Z : FVec Ideal S2x1024x8x64 .bf16) bitsLt_bf16_f32) (shares X Y)) transposes_S2x8x64x1024_S2x1024x8x64_0_3_1_2

/-- The score of row `R` against key `s`. -/
def score (b : Fin 2) (h : Fin 8) (R s : Fin 1024) : EReal := (∑ d : Fin 64, X (ix4 b R h d) * Y (ix4 b s h d)) * Ideal.ofBits .f32 0x3E000000#32

/-- The number the largest score is sought from. -/
theorem bottom : Ideal.ofBits .f32 0xFF800000#32 = ⊥ := by simp [Ideal.ofBits, Ideal.ieee]
/-- An eighth. -/
theorem eighth : Ideal.ofBits .f32 0x3E000000#32 = ((1 / 8 : ℝ) : EReal) := by
  simp [Ideal.ofBits, Ideal.ieee, -EReal.coe_mul]
  norm_num

variable (b : Fin 2) (h : Fin 8) (R s : Fin 1024) (d : Fin 64)

theorem scores_apply : scores X Y (ix4 b h R s) = score X Y b h R s := by
  pointwise [scores]
  rfl
theorem weights_apply : weights X Y (ix4 b h R s) = Ideal.exp (score X Y b h R s - Attend.top (score X Y b h R)) := by
  pointwise [weights]
  simp only [scores_apply, bottom]
  rfl
theorem shares_apply : shares X Y (ix4 b h R s)
    = Ideal.div (Ideal.exp (score X Y b h R s - Attend.top (score X Y b h R))) (∑ u, Ideal.exp (score X Y b h R u - Attend.top (score X Y b h R))) := by
  pointwise [shares]
  simp only [weights_apply]
theorem attention_apply : attention X Y Z (ix4 b R h d) = Attend.steady (score X Y b h R) (fun s => Z (ix4 b s h d)) := by
  pointwise [attention]
  simp only [shares_apply]
  rfl

end Cert.ReferenceIdeal.Value

end
-- ==== Proof.Equation.lean ====
/-
The kernel's result and the reference's are the same, where the queries and the keys are finite.
-/
module

public import proofs.«01_k».proof.Proof.Whole
public import proofs.«01_k».proof.Proof.Reference
public import proofs.«01_k».proof.Pre_finite_qk_KernelIdeal

@[expose] public section

noncomputable section

namespace Cert.Proof

open Idealize.ShloMosaic
open scoped BigOperators

/-! ## Finite queries and keys -/

instance facts_finite : Cert.Pre_finite_qk_KernelIdeal.Facts := ⟨by decide⟩

/-- A number whose absolute value is below infinity is a real. -/
theorem real_of_small (x : EReal) (h : FloatOps.absf (F := Ideal) (φ := .bf16) x < ⊤) : ∃ t : ℝ, x = t := by
  have h' : max x (-x) < ⊤ := h
  have h1 : x ≠ ⊤ := ((le_max_left _ _).trans_lt h').ne
  have h2 : x ≠ ⊥ := fun e => by
    rw [e] at h'
    exact absurd h' (by simp)
  exact ⟨_, (EReal.coe_toReal h1 h2).symm⟩

theorem both_set : ∀ p q : BitVec 1, IntOp.andi p q = 1#1 → p = 1#1 ∧ q = 1#1 := by decide

theorem set_of_ofBool (p : Bool) (h : BitVec.ofBool p = 1#1) : p = true := by
  cases p
  · exact absurd h (by decide)
  · rfl

theorem infinity : Ideal.ofBits .bf16 0x7F80#16 = ⊤ := by simp [Ideal.ofBits, Ideal.ieee]

theorem finite_block (Q K V : (⟨4, ![2, 256, 8, 64]⟩ : Shape).Idx → EReal)
    (h : Cert.Pre_finite_qk_KernelIdeal.fn (F := Ideal) Q K V = fun _ => 1#1) (b : Fin 2) (r : Fin 256) (n : Fin 8) (d : Fin 64) :
    (∃ t : ℝ, Q (ix4 b r n d) = t) ∧ ∃ t : ℝ, K (ix4 b r n d) = t := by
  have e := congrFun h (ix4 b r n d)
  revert e
  pointwise [Cert.Pre_finite_qk_KernelIdeal.fn]
  rw [infinity]
  intro e
  obtain ⟨e1, e2⟩ := both_set _ _ e
  exact ⟨real_of_small _ (of_decide_eq_true (set_of_ofBool _ e1)), real_of_small _ (of_decide_eq_true (set_of_ofBool _ e2))⟩

/-- Every entry of a whole array is in the block of some device. -/
theorem in_block (i : (⟨4, ![2, 1024, 8, 64]⟩ : Shape).Idx) :
    ∃ (c : Dev Cert.KernelIdeal.nD) (r : Fin 256), ∀ Y : (⟨4, ![2, 1024, 8, 64]⟩ : Shape).Idx → EReal, Y i = Cert.KernelIdeal.Talk.held Y c (ix4 (i 0) r (i 2) (i 3)) := by
  have hi : (i 1).val < 1024 := (i 1).isLt
  have e : ∀ Y : (⟨4, ![2, 1024, 8, 64]⟩ : Shape).Idx → EReal, Y i
      = Cert.KernelIdeal.Talk.held Y ⟨4 * ((i 1).val / 256), by show _ < 32; omega⟩ (ix4 (i 0) ⟨(i 1).val % 256, Nat.mod_lt _ (by decide)⟩ (i 2) (i 3)) := fun Y => by
    refine Eq.trans (congrArg Y ?_) (Cert.KernelIdeal.Talk.block_apply Y _ _ _ _ _).symm
    refine (eq_ix4 i).trans (congrArg (fun R => ix4 (i 0) R (i 2) (i 3)) (Fin.ext ?_))
    show (i 1).val = 256 * (4 * ((i 1).val / 256) / 4 % 4) + (i 1).val % 256
    omega
  exact ⟨_, _, e⟩

/-! ## The scores -/

theorem eighth_bf16 : Ideal.ofBits .bf16 0x3E00#16 = ((1 / 8 : ℝ) : EReal) := by
  simp [Ideal.ofBits, Ideal.ieee, -EReal.coe_mul]
  norm_num

section Arrays

variable (X Y Z : (⟨4, ![2, 1024, 8, 64]⟩ : Shape).Idx → EReal)
variable (x y : (⟨4, ![2, 1024, 8, 64]⟩ : Shape).Idx → ℝ) (hX : ∀ i, X i = x i) (hY : ∀ i, Y i = y i)
include hX hY

/-- Scaling the query first, or the inner product, makes no difference. -/
theorem scores_agree (b : Fin 2) (h : Fin 8) (R s : Fin 1024) :
    ∃ t : ℝ, Cert.KernelIdeal.Talk.score X Y b h R s = t ∧ Cert.ReferenceIdeal.Value.score X Y b h R s = t := by
  refine ⟨(∑ d : Fin 64, x (ix4 b R h d) * y (ix4 b s h d)) * (1 / 8), ?_, ?_⟩
  · unfold Cert.KernelIdeal.Talk.score
    rw [eighth_bf16, Finset.sum_mul, Attend.coe_sum]
    refine Finset.sum_congr rfl fun d _ => ?_
    rw [hX, hY, ← EReal.coe_mul, ← EReal.coe_mul]
    exact congrArg _ (by ring)
  · unfold Cert.ReferenceIdeal.Value.score
    rw [Cert.ReferenceIdeal.Value.eighth, EReal.coe_mul, Attend.coe_sum]
    refine congrArg (· * _) (Finset.sum_congr rfl fun d _ => ?_)
    rw [hX, hY, ← EReal.coe_mul]

/-- Attention as the kernel computes it is attention as the reference computes it. -/
theorem attention_agrees (b : Fin 2) (R : Fin 1024) (h : Fin 8) (d : Fin 64) :
    Cert.ReferenceIdeal.Value.attention X Y Z (ix4 b R h d)
      = Attend.plain (Cert.KernelIdeal.Talk.score X Y b h R) (fun s => Z (ix4 b s h d)) := by
  choose t ht ht' using fun s => scores_agree X Y x y hX hY b h R s
  rw [Cert.ReferenceIdeal.Value.attention_apply, show Cert.KernelIdeal.Talk.score X Y b h R = fun s => (t s : EReal) from funext ht,
    show Cert.ReferenceIdeal.Value.score X Y b h R = fun s => (t s : EReal) from funext ht']
  exact Attend.steady_eq_plain t _

end Arrays

end Cert.Proof

end
-- ==== Proof.lean ====
/-
The claims: the kernel as printed and the kernel over any float values run to their end with the arguments untouched and
every counter at zero, and so does the reference; and over the extended reals, where the queries and the keys are finite,
every device of the kernel ends with its block of the reference's result.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Same
public import proofs.«01_k».proof.Proof.Result
public import proofs.«01_k».proof.Proof.Equation

@[expose] public section

noncomputable section

namespace Cert.Proof

open Idealize.ShloMosaic Idealize.ShloMosaic.TcCoe Idealize.SL.Sem

/-- The kernel at the words: the two printed programs have the same text, so its run is the other's at the words. -/
theorem frame_kernel : Cert.quiescent_Kernel := fun m ρ _ => by
  rw [same_defs, same_main]
  exact (θ_run Cert.KernelIdeal.defs _ _).mono (fun _ h => ⟨fun c => ⟨(h.1 c).1, (h.1 c).2.1, (h.1 c).2.2.1⟩, h.2⟩)
    (Cert.KernelIdeal.Talk.run_main (F := Bits) m ρ)

/-- The kernel over the extended reals. -/
theorem frame_ideal : Cert.quiescent_KernelIdeal := fun m ρ _ =>
  (θ_run Cert.KernelIdeal.defs _ _).mono (fun _ h => ⟨fun c => ⟨(h.1 c).1, (h.1 c).2.1, (h.1 c).2.2.1⟩, h.2⟩)
    (Cert.KernelIdeal.Talk.run_main (F := Ideal) m ρ)

/-- The reference over the extended reals; it has no counters. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

instance facts_finite_whole : Cert.Pre_finite_qk_ReferenceIdeal.Facts := ⟨by decide⟩

/-- Where the queries and the keys are finite, the kernel's devices end with the blocks of the reference's result. -/
theorem agree : Cert.algebraic_KernelIdeal_ReferenceIdeal_pre_finite_qk_KernelIdeal := fun m ρ m' ρ' hfin hb => by
  have hq : ∀ i, ∃ t : ℝ, (m' (((0 : Dev Cert.ReferenceIdeal.nD) : Thread Cert.ReferenceIdeal.nD Cert.ReferenceIdeal.τ).loc Cert.ReferenceIdeal.main_arg0)) i = (t : EReal) := fun i => by
    obtain ⟨c, r, e⟩ := in_block i
    obtain ⟨t, ht⟩ := (finite_block _ _ _ (hfin c) (i 0) r (i 2) (i 3)).1
    exact ⟨t, (e _).trans ((congrFun (hb c).1 _).symm.trans ht)⟩
  have hk : ∀ i, ∃ t : ℝ, (m' (((0 : Dev Cert.ReferenceIdeal.nD) : Thread Cert.ReferenceIdeal.nD Cert.ReferenceIdeal.τ).loc Cert.ReferenceIdeal.main_arg1)) i = (t : EReal) := fun i => by
    obtain ⟨c, r, e⟩ := in_block i
    obtain ⟨t, ht⟩ := (finite_block _ _ _ (hfin c) (i 0) r (i 2) (i 3)).2
    exact ⟨t, (e _).trans ((congrFun (hb c).2.1 _).symm.trans ht)⟩
  choose x hx using hq
  choose y hy using hk
  refine ⟨Cert.ReferenceIdeal.Value.attention (m' (((0 : Dev Cert.ReferenceIdeal.nD) : Thread Cert.ReferenceIdeal.nD Cert.ReferenceIdeal.τ).loc Cert.ReferenceIdeal.main_arg0))
    (m' (((0 : Dev Cert.ReferenceIdeal.nD) : Thread Cert.ReferenceIdeal.nD Cert.ReferenceIdeal.τ).loc Cert.ReferenceIdeal.main_arg1))
    (m' (((0 : Dev Cert.ReferenceIdeal.nD) : Thread Cert.ReferenceIdeal.nD Cert.ReferenceIdeal.τ).loc Cert.ReferenceIdeal.main_arg2)), ?_, ?_⟩
  · refine (θ_run Cert.KernelIdeal.defs _ _).mono (fun r h c => ⟨(h.1 c).2.2.2.trans (funext fun i => ?_), (h.1 c).1, (h.1 c).2.1, (h.1 c).2.2.1⟩)
      (Cert.KernelIdeal.Talk.run_main (F := Ideal) m ρ)
    rw [eq_ix4 i]
    refine (Cert.KernelIdeal.Talk.outcome_whole m _ _ _ (fun c => (hb c).1) (fun c => (hb c).2.1) (fun c => (hb c).2.2) c (i 0) (i 1) (i 2) (i 3)).trans ?_
    exact ((Cert.KernelIdeal.Talk.block_apply _ c (i 0) (i 1) (i 2) (i 3)).trans (attention_agrees _ _ _ x y hx hy _ _ _ _)).symm
  · exact (θ_run Cert.ReferenceIdeal.defs _ _).mono (fun r h => ⟨(h 0).1, (h 0).2⟩) (Cert.ReferenceIdeal.Value.run (F := Ideal) m' ρ')

theorem claim : Cert.Claim := ⟨Cert.Kernel.Gen.facts, Cert.KernelIdeal.Gen.facts, Cert.ReferenceIdeal.Gen.facts, facts_finite, facts_finite_whole,
  frame_kernel, frame_ideal, fun m ρ _ => frame_ideal m ρ trivial, frame_reference, fun m ρ _ => frame_reference m ρ trivial, trivial, agree⟩

end Cert.Proof

end
